-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_nearest_is_unique [hPre_nearest_is_unique : Cert.Pre_nearest_is_unique.Facts] (m : (ℓ : Loc Cert.KernelIdeal.nD Cert.KernelIdeal.τ Cert.KernelIdeal.sig) → Buf (Elt Ideal) ℓ) : Prop :=
  ∀ c : Dev Cert.KernelIdeal.nD,
    (Cert.Pre_nearest_is_unique.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_nearest_is_unique [hPre_nearest_is_unique : Cert.Pre_nearest_is_unique.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_nearest_is_unique.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_nearest_is_unique [hKernelIdeal : Cert.KernelIdeal.Facts] [hPre_nearest_is_unique : Cert.Pre_nearest_is_unique.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_nearest_is_unique m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_nearest_is_unique [hReferenceIdeal : Cert.ReferenceIdeal.Facts] [hPre_nearest_is_unique : Cert.Pre_nearest_is_unique.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_nearest_is_unique m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_nearest_is_unique [hKernelIdeal : Cert.KernelIdeal.Facts] [hReferenceIdeal : Cert.ReferenceIdeal.Facts] [hPre_nearest_is_unique : Cert.Pre_nearest_is_unique.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_nearest_is_unique m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_nearest_is_unique : Cert.Pre_nearest_is_unique.Facts),
    quiescent_Kernel (hKernel := hKernel)
    ∧ quiescent_KernelIdeal (hKernelIdeal := hKernelIdeal)
    ∧ quiescent_KernelIdeal_pre_nearest_is_unique (hKernelIdeal := hKernelIdeal) (hPre_nearest_is_unique := hPre_nearest_is_unique)
    ∧ quiescent_ReferenceIdeal (hReferenceIdeal := hReferenceIdeal)
    ∧ quiescent_ReferenceIdeal_pre_nearest_is_unique (hReferenceIdeal := hReferenceIdeal) (hPre_nearest_is_unique := hPre_nearest_is_unique)
    ∧ preserves_Kernel_KernelIdeal
    ∧ algebraic_KernelIdeal_ReferenceIdeal_pre_nearest_is_unique (hKernelIdeal := hKernelIdeal) (hReferenceIdeal := hReferenceIdeal) (hPre_nearest_is_unique := hPre_nearest_is_unique)
-- ==== Pre_nearest_is_unique.lean ====
abbrev S4x4096x6 : Shape := ⟨3, ![4, 4096, 6]⟩
abbrev S4x4096x3 : Shape := ⟨3, ![4, 4096, 3]⟩
abbrev S_ : Shape := ⟨0, ![]⟩
abbrev S4x4096 : Shape := ⟨2, ![4, 4096]⟩
abbrev S4x4096x4096 : Shape := ⟨3, ![4, 4096, 4096]⟩
abbrev S4x4096x1 : Shape := ⟨3, ![4, 4096, 1]⟩
abbrev S4x1x4096 : Shape := ⟨3, ![4, 1, 4096]⟩

class Facts : Prop where
  slices_S4x4096x6_S4x4096x3_0_0_0 : S4x4096x6.Slices ![0, 0, 0] S4x4096x3
  slices_S4x4096x6_S4x4096x3_0_0_3 : S4x4096x6.Slices ![0, 0, 3] S4x4096x3
  reducesTo_S4x4096x3_S4x4096_d2 : S4x4096x3.ReducesTo [2] S4x4096
  h_S_ : 0 < S_.numel
  bcast_S_S4x4096 : S_.BroadcastsInDim S4x4096 (![] : Fin 0 → Fin S4x4096.rank)
  reducesTo_S4x4096_S_d0_1 : S4x4096.ReducesTo [0, 1] S_
  bcast_S4x4096_S4x4096x1_0_1 : S4x4096.BroadcastsInDim S4x4096x1 (![0, 1] : Fin 2 → Fin S4x4096x1.rank)
  bcast_S4x4096_S4x1x4096_0_2 : S4x4096.BroadcastsInDim S4x1x4096 (![0, 2] : Fin 2 → Fin S4x1x4096.rank)
  bcast_S4x4096x1_S4x4096x4096_0_1_2 : S4x4096x1.BroadcastsInDim S4x4096x4096 (![0, 1, 2] : Fin 3 → Fin S4x4096x4096.rank)
  bcast_S4x1x4096_S4x4096x4096_0_1_2 : S4x1x4096.BroadcastsInDim S4x4096x4096 (![0, 1, 2] : Fin 3 → Fin S4x4096x4096.rank)
  bcast_S_S4x4096x4096 : S_.BroadcastsInDim S4x4096x4096 (![] : Fin 0 → Fin S4x4096x4096.rank)
  reducesTo_S4x4096x4096_S4x4096_d2 : S4x4096x4096.ReducesTo [2] S4x4096
  reducesTo_S4x4096x4096_S_d0_1_2 : S4x4096x4096.ReducesTo [0, 1, 2] S_
  reducesTo_S4x4096x4096_S4x4096_d1 : S4x4096x4096.ReducesTo [1] S4x4096
  dot_S4x4096x3_S4x4096x3_S4x4096x4096_2_2_1_1_0_0_wf : DotDims.WF S4x4096x3 S4x4096x3 S4x4096x4096 [2] [2] [1] [1] [0] [0]

variable [Facts]

variable {F : FTy → Type} [FloatOps F]
def dot_S4x4096x3_S4x4096x3_S4x4096x4096_2_2_1_1_0_0 : DotDims S4x4096x3 S4x4096x3 S4x4096x4096 where
  lhsContracting := [2]
  rhsContracting := [2]
  lhsNonContracting := [1]
  rhsNonContracting := [1]
  lhsBatch := [0]
  rhsBatch := [0]
  wf := dot_S4x4096x3_S4x4096x3_S4x4096x4096_2_2_1_1_0_0_wf
def reducer_argmin_f32_i32 : F .f32 × BitVec 32 → F .f32 × BitVec 32 → F .f32 × BitVec 32 :=
  fun a b =>
    let v2 := FloatOps.cmpf .olt a.1 b.1
    let v3 := FloatOps.cmpf .une a.1 a.1
    let v4 := IntOp.ori v2 v3
    let v5 := FloatOps.cmpf .oeq a.1 b.1
    let v6 := IntOp.cmpi .slt a.2 b.2
    let v7 := IntOp.andi v5 v6
    let v8 := IntOp.ori v4 v7
    let v9 := Scalar.select v4 a.1 b.1
    let v10 := Scalar.select v8 a.2 b.2
    (v9, v10)

def fn_argmin {F : FTy → Type} [FloatOps F] (arg0 : FVec F S4x4096x4096 .f32) : IVec S4x4096 32 :=
  let v0 : IVec S4x4096x4096 32 := iotaInDim S4x4096x4096 32 2
  let cst : FVec F S_ .f32 := constant S_ .f32 0x7F800000#32
  let c : IVec S_ 32 := constantI S_ 32 0#32
  let v1_0 : FVec F S4x4096 .f32 := (fun x y u v j => (Host.argReduce reducer_argmin_f32_i32 x y u v reducesTo_S4x4096x4096_S4x4096_d2 h_S_ j).1) arg0 v0 cst c
  let v1_1 : IVec S4x4096 32 := (fun x y u v j => (Host.argReduce reducer_argmin_f32_i32 x y u v reducesTo_S4x4096x4096_S4x4096_d2 h_S_ j).2) arg0 v0 cst c
  v1_1

def fn_argmin_0 {F : FTy → Type} [FloatOps F] (arg0 : FVec F S4x4096x4096 .f32) : IVec S4x4096 32 :=
  let v0 : IVec S4x4096x4096 32 := iotaInDim S4x4096x4096 32 1
  let cst : FVec F S_ .f32 := constant S_ .f32 0x7F800000#32
  let c : IVec S_ 32 := constantI S_ 32 0#32
  let v1_0 : FVec F S4x4096 .f32 := (fun x y u v j => (Host.argReduce reducer_argmin_f32_i32 x y u v reducesTo_S4x4096x4096_S4x4096_d1 h_S_ j).1) arg0 v0 cst c
  let v1_1 : IVec S4x4096 32 := (fun x y u v j => (Host.argReduce reducer_argmin_f32_i32 x y u v reducesTo_S4x4096x4096_S4x4096_d1 h_S_ j).2) arg0 v0 cst c
  v1_1

def fn_part3 {F : FTy → Type} [FloatOps F] (main_v22 : IVec S_ 1) (main_v47 : IVec S_ 1) (main_v56 : IVec S4x4096x4096 1) (main_c_12 : IVec S_ 1) : IVec S_ 1 :=
  let main_v57 : IVec S_ 1 := (fun x v => Host.reduce IntOp.andi x v reducesTo_S4x4096x4096_S_d0_1_2 h_S_) main_v56 main_c_12
  let main_v58 : IVec S_ 1 := andi main_v22 main_v47
  let main_v59 : IVec S_ 1 := andi main_v58 main_v57
  main_v59

def fn_part2 {F : FTy → Type} [FloatOps F] (main_v22 : IVec S_ 1) (main_v35 : FVec F S4x4096x4096 .f32) (main_v36 : IVec S4x4096x4096 32) : IVec S_ 1 :=
  let main_v37 : IVec S4x4096x4096 32 := iotaInDim S4x4096x4096 32 1
  let main_cst_9 : FVec F S_ .f32 := constant S_ .f32 0x7F800000#32
  let main_v38 : FVec F S4x4096 .f32 := (fun x v => Host.reduce FloatOps.minimumf x v reducesTo_S4x4096x4096_S4x4096_d2 h_S_) main_v35 main_cst_9
  let main_v39 : FVec F S4x4096x1 .f32 := broadcastInDim S4x4096x1 ![0, 1] bcast_S4x4096_S4x4096x1_0_1 main_v38
  let main_v40 : FVec F S4x4096x4096 .f32 := broadcastInDim S4x4096x4096 ![0, 1, 2] bcast_S4x4096x1_S4x4096x4096_0_1_2 main_v39
  let main_v41 : IVec S4x4096x4096 1 := cmpf .ogt main_v35 main_v40
  let main_v42 : IVec S4x4096 32 := fn_argmin (F := F) main_v35
  let main_v43 : IVec S4x4096x1 32 := broadcastInDim S4x4096x1 ![0, 1] bcast_S4x4096_S4x4096x1_0_1 main_v42
  let main_v44 : IVec S4x4096x4096 32 := broadcastInDim S4x4096x4096 ![0, 1, 2] bcast_S4x4096x1_S4x4096x4096_0_1_2 main_v43
  let main_v45 : IVec S4x4096x4096 1 := cmpi .eq main_v36 main_v44
  let main_v46 : IVec S4x4096x4096 1 := ori main_v41 main_v45
  let main_c_10 : IVec S_ 1 := constantI S_ 1 1#1
  let main_v47 : IVec S_ 1 := (fun x v => Host.reduce IntOp.andi x v reducesTo_S4x4096x4096_S_d0_1_2 h_S_) main_v46 main_c_10
  let main_cst_11 : FVec F S_ .f32 := constant S_ .f32 0x7F800000#32
  let main_v48 : FVec F S4x4096 .f32 := (fun x v => Host.reduce FloatOps.minimumf x v reducesTo_S4x4096x4096_S4x4096_d1 h_S_) main_v35 main_cst_11
  let main_v49 : FVec F S4x1x4096 .f32 := broadcastInDim S4x1x4096 ![0, 2] bcast_S4x4096_S4x1x4096_0_2 main_v48
  let main_v50 : FVec F S4x4096x4096 .f32 := broadcastInDim S4x4096x4096 ![0, 1, 2] bcast_S4x1x4096_S4x4096x4096_0_1_2 main_v49
  let main_v51 : IVec S4x4096x4096 1 := cmpf .ogt main_v35 main_v50
  let main_v52 : IVec S4x4096 32 := fn_argmin_0 (F := F) main_v35
  let main_v53 : IVec S4x1x4096 32 := broadcastInDim S4x1x4096 ![0, 2] bcast_S4x4096_S4x1x4096_0_2 main_v52
  let main_v54 : IVec S4x4096x4096 32 := broadcastInDim S4x4096x4096 ![0, 1, 2] bcast_S4x1x4096_S4x4096x4096_0_1_2 main_v53
  let main_v55 : IVec S4x4096x4096 1 := cmpi .eq main_v37 main_v54
  let main_v56 : IVec S4x4096x4096 1 := ori main_v51 main_v55
  let main_c_12 : IVec S_ 1 := constantI S_ 1 1#1
  fn_part3 (F := F) main_v22 main_v47 main_v56 main_c_12

def fn_part1 {F : FTy → Type} [FloatOps F] (main_v0 : FVec F S4x4096x3 .f32) (main_v2 : FVec F S4x4096x3 .f32) (main_v9 : FVec F S4x4096 .f32) (main_v15 : IVec S_ 1) (main_v17 : IVec S4x4096 1) : IVec S_ 1 :=
  let main_cst_4 : FVec F S_ .f32 := constant S_ .f32 0x2B8CBCCC#32
  let main_v18 : FVec F S4x4096 .f32 := broadcastInDim S4x4096 ![] bcast_S_S4x4096 main_cst_4
  let main_v19 : IVec S4x4096 1 := cmpf .oge main_v9 main_v18
  let main_v20 : IVec S4x4096 1 := ori main_v17 main_v19
  let main_c_5 : IVec S_ 1 := constantI S_ 1 1#1
  let main_v21 : IVec S_ 1 := (fun x v => Host.reduce IntOp.andi x v reducesTo_S4x4096_S_d0_1 h_S_) main_v20 main_c_5
  let main_v22 : IVec S_ 1 := andi main_v15 main_v21
  let main_v23 : FVec F S4x4096x3 .f32 := mulf main_v0 main_v0
  let main_cst_6 : FVec F S_ .f32 := constant S_ .f32 0x00000000#32
  let main_v24 : FVec F S4x4096 .f32 := (fun x v => Host.reduceAdd x v reducesTo_S4x4096x3_S4x4096_d2 h_S_) main_v23 main_cst_6
  let main_v25 : FVec F S4x4096x3 .f32 := mulf main_v2 main_v2
  let main_cst_7 : FVec F S_ .f32 := constant S_ .f32 0x00000000#32
  let main_v26 : FVec F S4x4096 .f32 := (fun x v => Host.reduceAdd x v reducesTo_S4x4096x3_S4x4096_d2 h_S_) main_v25 main_cst_7
  let main_v27 : FVec F S4x4096x4096 .f32 := (fun l r => Host.dotGeneral dot_S4x4096x3_S4x4096x3_S4x4096x4096_2_2_1_1_0_0 none l r) main_v0 main_v2
  let main_v28 : FVec F S4x4096x1 .f32 := broadcastInDim S4x4096x1 ![0, 1] bcast_S4x4096_S4x4096x1_0_1 main_v24
  let main_v29 : FVec F S4x1x4096 .f32 := broadcastInDim S4x1x4096 ![0, 2] bcast_S4x4096_S4x1x4096_0_2 main_v26
  let main_v30 : FVec F S4x4096x4096 .f32 := broadcastInDim S4x4096x4096 ![0, 1, 2] bcast_S4x4096x1_S4x4096x4096_0_1_2 main_v28
  let main_v31 : FVec F S4x4096x4096 .f32 := broadcastInDim S4x4096x4096 ![0, 1, 2] bcast_S4x1x4096_S4x4096x4096_0_1_2 main_v29
  let main_v32 : FVec F S4x4096x4096 .f32 := addf main_v30 main_v31
  let main_cst_8 : FVec F S_ .f32 := constant S_ .f32 0x40000000#32
  let main_v33 : FVec F S4x4096x4096 .f32 := broadcastInDim S4x4096x4096 ![] bcast_S_S4x4096x4096 main_cst_8
  let main_v34 : FVec F S4x4096x4096 .f32 := mulf main_v33 main_v27
  let main_v35 : FVec F S4x4096x4096 .f32 := subf main_v32 main_v34
  let main_v36 : IVec S4x4096x4096 32 := iotaInDim S4x4096x4096 32 2
  fn_part2 (F := F) main_v22 main_v35 main_v36

def fn {F : FTy → Type} [FloatOps F] (main_arg0 : FVec F S4x4096x6 .f32) (main_arg1 : FVec F S4x4096x6 .f32) : IVec S_ 1 :=
  let main_v0 : FVec F S4x4096x3 .f32 := (extractStridedSlice S4x4096x3 ![0, 0, 0] · slices_S4x4096x6_S4x4096x3_0_0_0) main_arg0
  let main_v1 : FVec F S4x4096x3 .f32 := (extractStridedSlice S4x4096x3 ![0, 0, 3] · slices_S4x4096x6_S4x4096x3_0_0_3) main_arg0
  let main_v2 : FVec F S4x4096x3 .f32 := (extractStridedSlice S4x4096x3 ![0, 0, 0] · slices_S4x4096x6_S4x4096x3_0_0_0) main_arg1
  let main_v3 : FVec F S4x4096x3 .f32 := (extractStridedSlice S4x4096x3 ![0, 0, 3] · slices_S4x4096x6_S4x4096x3_0_0_3) main_arg1
  let main_v4 : FVec F S4x4096x3 .f32 := mulf main_v1 main_v1
  let main_cst : FVec F S_ .f32 := constant S_ .f32 0x00000000#32
  let main_v5 : FVec F S4x4096 .f32 := (fun x v => Host.reduceAdd x v reducesTo_S4x4096x3_S4x4096_d2 h_S_) main_v4 main_cst
  let main_v6 : FVec F S4x4096 .f32 := Host.sqrt main_v5
  let main_v7 : FVec F S4x4096x3 .f32 := mulf main_v3 main_v3
  let main_cst_0 : FVec F S_ .f32 := constant S_ .f32 0x00000000#32
  let main_v8 : FVec F S4x4096 .f32 := (fun x v => Host.reduceAdd x v reducesTo_S4x4096x3_S4x4096_d2 h_S_) main_v7 main_cst_0
  let main_v9 : FVec F S4x4096 .f32 := Host.sqrt main_v8
  let main_cst_1 : FVec F S_ .f32 := constant S_ .f32 0x00000000#32
  let main_v10 : FVec F S4x4096 .f32 := broadcastInDim S4x4096 ![] bcast_S_S4x4096 main_cst_1
  let main_v11 : IVec S4x4096 1 := cmpf .oeq main_v6 main_v10
  let main_cst_2 : FVec F S_ .f32 := constant S_ .f32 0x2B8CBCCC#32
  let main_v12 : FVec F S4x4096 .f32 := broadcastInDim S4x4096 ![] bcast_S_S4x4096 main_cst_2
  let main_v13 : IVec S4x4096 1 := cmpf .oge main_v6 main_v12
  let main_v14 : IVec S4x4096 1 := ori main_v11 main_v13
  let main_c : IVec S_ 1 := constantI S_ 1 1#1
  let main_v15 : IVec S_ 1 := (fun x v => Host.reduce IntOp.andi x v reducesTo_S4x4096_S_d0_1 h_S_) main_v14 main_c
  let main_cst_3 : FVec F S_ .f32 := constant S_ .f32 0x00000000#32
  let main_v16 : FVec F S4x4096 .f32 := broadcastInDim S4x4096 ![] bcast_S_S4x4096 main_cst_3
  let main_v17 : IVec S4x4096 1 := cmpf .oeq main_v9 main_v16
  fn_part1 (F := F) main_v0 main_v2 main_v9 main_v15 main_v17
-- ==== Kernel.lean ====
abbrev S4x4096x6 : Shape := ⟨3, ![4, 4096, 6]⟩
abbrev S4x4096x3 : Shape := ⟨3, ![4, 4096, 3]⟩
abbrev S_ : Shape := ⟨0, ![]⟩
abbrev S4x4096 : Shape := ⟨2, ![4, 4096]⟩
abbrev S4x4096x1 : Shape := ⟨3, ![4, 4096, 1]⟩
abbrev S4x4096x8 : Shape := ⟨3, ![4, 4096, 8]⟩
abbrev S4x8x4096 : Shape := ⟨3, ![4, 8, 4096]⟩
abbrev S4x3x4096 : Shape := ⟨3, ![4, 3, 4096]⟩
abbrev S4x4x128 : Shape := ⟨3, ![4, 4, 128]⟩
abbrev S4x4x1 : Shape := ⟨3, ![4, 4, 1]⟩
abbrev S4x4 : Shape := ⟨2, ![4, 4]⟩
abbrev S4 : Shape := ⟨1, ![4]⟩
abbrev S1 : Shape := ⟨1, ![1]⟩
abbrev S1x4096x6 : Shape := ⟨3, ![1, 4096, 6]⟩
abbrev S1x8x4096 : Shape := ⟨3, ![1, 8, 4096]⟩
abbrev S1x4096x3 : Shape := ⟨3, ![1, 4096, 3]⟩
abbrev S1x3x4096 : Shape := ⟨3, ![1, 3, 4096]⟩
abbrev S1x4x128 : Shape := ⟨3, ![1, 4, 128]⟩
abbrev S4096x6 : Shape := ⟨2, ![4096, 6]⟩
abbrev S3x4096 : Shape := ⟨2, ![3, 4096]⟩
abbrev S4096x3 : Shape := ⟨2, ![4096, 3]⟩
abbrev S4096 : Shape := ⟨1, ![4096]⟩
abbrev S4096x1 : Shape := ⟨2, ![4096, 1]⟩
abbrev S4096x8 : Shape := ⟨2, ![4096, 8]⟩
abbrev S1x8x1024 : Shape := ⟨3, ![1, 8, 1024]⟩
abbrev S8x1024 : Shape := ⟨2, ![8, 1024]⟩
abbrev S4096x1024 : Shape := ⟨2, ![4096, 1024]⟩
abbrev S1024 : Shape := ⟨1, ![1024]⟩
abbrev S1x1024 : Shape := ⟨2, ![1, 1024]⟩
abbrev S3x1024 : Shape := ⟨2, ![3, 1024]⟩
abbrev S1x1x1024 : Shape := ⟨3, ![1, 1, 1024]⟩
abbrev S1x1x1 : Shape := ⟨3, ![1, 1, 1]⟩
abbrev S1x3x1024 : Shape := ⟨3, ![1, 3, 1024]⟩
abbrev S1x1024x3 : Shape := ⟨3, ![1, 1024, 3]⟩
abbrev S1024x3 : Shape := ⟨2, ![1024, 3]⟩
abbrev S1x4096x1 : Shape := ⟨3, ![1, 4096, 1]⟩
abbrev S128 : Shape := ⟨1, ![128]⟩
abbrev S1x1x128 : Shape := ⟨3, ![1, 1, 128]⟩

abbrev nBuf : Space → Nat
  | .hbm => 59
  | .vmem => 14
  | .smem => 0
  | _ => 0

abbrev bufTy : (tb : Table) → Fin (tcTables nBuf tb) → BufTy
  | .hbm, ⟨0, _⟩ => ⟨S4x4096x6, .f32⟩
  | .hbm, ⟨1, _⟩ => ⟨S4x4096x6, .f32⟩
  | .hbm, ⟨2, _⟩ => ⟨S4x4096x3, .f32⟩
  | .hbm, ⟨3, _⟩ => ⟨S4x4096x3, .f32⟩
  | .hbm, ⟨4, _⟩ => ⟨S4x4096x3, .f32⟩
  | .hbm, ⟨5, _⟩ => ⟨S4x4096x3, .f32⟩
  | .hbm, ⟨6, _⟩ => ⟨S_, .f32⟩
  | .hbm, ⟨7, _⟩ => ⟨S4x4096, .f32⟩
  | .hbm, ⟨8, _⟩ => ⟨S4x4096x1, .f32⟩
  | .hbm, ⟨9, _⟩ => ⟨S4x4096x1, .f32⟩
  | .hbm, ⟨10, _⟩ => ⟨S_, .f32⟩
  | .hbm, ⟨11, _⟩ => ⟨S4x4096x1, .f32⟩
  | .hbm, ⟨12, _⟩ => ⟨S4x4096x1, .f32⟩
  | .hbm, ⟨13, _⟩ => ⟨S4x4096x3, .f32⟩
  | .hbm, ⟨14, _⟩ => ⟨S4x4096x3, .f32⟩
  | .hbm, ⟨15, _⟩ => ⟨S4x4096x3, .f32⟩
  | .hbm, ⟨16, _⟩ => ⟨S_, .f32⟩
  | .hbm, ⟨17, _⟩ => ⟨S4x4096, .f32⟩
  | .hbm, ⟨18, _⟩ => ⟨S4x4096x1, .f32⟩
  | .hbm, ⟨19, _⟩ => ⟨S4x4096x1, .f32⟩
  | .hbm, ⟨20, _⟩ => ⟨S_, .f32⟩
  | .hbm, ⟨21, _⟩ => ⟨S4x4096x1, .f32⟩
  | .hbm, ⟨22, _⟩ => ⟨S4x4096x1, .f32⟩
  | .hbm, ⟨23, _⟩ => ⟨S4x4096x3, .f32⟩
  | .hbm, ⟨24, _⟩ => ⟨S4x4096x3, .f32⟩
  | .hbm, ⟨25, _⟩ => ⟨S4x4096x3, .f32⟩
  | .hbm, ⟨26, _⟩ => ⟨S_, .f32⟩
  | .hbm, ⟨27, _⟩ => ⟨S4x4096, .f32⟩
  | .hbm, ⟨28, _⟩ => ⟨S4x4096x1, .f32⟩
  | .hbm, ⟨29, _⟩ => ⟨S_, .f32⟩
  | .hbm, ⟨30, _⟩ => ⟨S4x4096x1, .f32⟩
  | .hbm, ⟨31, _⟩ => ⟨S_, .f32⟩
  | .hbm, ⟨32, _⟩ => ⟨S4x4096x3, .f32⟩
  | .hbm, ⟨33, _⟩ => ⟨S4x4096x8, .f32⟩
  | .hbm, ⟨34, _⟩ => ⟨S4x8x4096, .f32⟩
  | .hbm, ⟨35, _⟩ => ⟨S4x3x4096, .f32⟩
  | .hbm, ⟨36, _⟩ => ⟨S4x4096x3, .bf16⟩
  | .hbm, ⟨37, _⟩ => ⟨S4x3x4096, .f32⟩
  | .hbm, ⟨38, _⟩ => ⟨S4x3x4096, .bf16⟩
  | .hbm, ⟨39, _⟩ => ⟨S4x4x128, .f32⟩
  | .hbm, ⟨40, _⟩ => ⟨S4x4x1, .f32⟩
  | .hbm, ⟨41, _⟩ => ⟨S4x4, .f32⟩
  | .hbm, ⟨42, _⟩ => ⟨S_, .f32⟩
  | .hbm, ⟨43, _⟩ => ⟨S4, .f32⟩
  | .hbm, ⟨44, _⟩ => ⟨S1, .f32⟩
  | .hbm, ⟨45, _⟩ => ⟨S_, .f32⟩
  | .hbm, ⟨46, _⟩ => ⟨S1, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S1, .f32⟩
  | .hbm, ⟨52, _⟩ => ⟨S_, .f32⟩
  | .hbm, ⟨53, _⟩ => ⟨S1, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .local _ .vmem, ⟨0, _⟩ => ⟨S1x4096x6, .f32⟩
  | .local _ .vmem, ⟨1, _⟩ => ⟨S1x4096x6, .f32⟩
  | .local _ .vmem, ⟨2, _⟩ => ⟨S1x8x4096, .f32⟩
  | .local _ .vmem, ⟨3, _⟩ => ⟨S1x8x4096, .f32⟩
  | .local _ .vmem, ⟨4, _⟩ => ⟨S1x4096x3, .bf16⟩
  | .local _ .vmem, ⟨5, _⟩ => ⟨S1x4096x3, .bf16⟩
  | .local _ .vmem, ⟨6, _⟩ => ⟨S1x3x4096, .f32⟩
  | .local _ .vmem, ⟨7, _⟩ => ⟨S1x3x4096, .f32⟩
  | .local _ .vmem, ⟨8, _⟩ => ⟨S1x3x4096, .bf16⟩
  | .local _ .vmem, ⟨9, _⟩ => ⟨S1x3x4096, .bf16⟩
  | .local _ .vmem, ⟨10, _⟩ => ⟨S1x4096x3, .f32⟩
  | .local _ .vmem, ⟨11, _⟩ => ⟨S1x4096x3, .f32⟩
  | .local _ .vmem, ⟨12, _⟩ => ⟨S1x4x128, .f32⟩
  | .local _ .vmem, ⟨13, _⟩ => ⟨S1x4x128, .f32⟩
  | _, _ => ⟨S4x4096x6, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_v2 : Ref sig .tc := ⟨.hbm, 4, rfl⟩
abbrev main_call0_v3 : Ref sig .tc := ⟨.hbm, 5, rfl⟩
abbrev main_call0_cst : Ref sig .tc := ⟨.hbm, 6, rfl⟩
abbrev main_call0_v4 : Ref sig .tc := ⟨.hbm, 7, rfl⟩
abbrev main_call0_v5 : Ref sig .tc := ⟨.hbm, 8, rfl⟩
abbrev main_call0_v6 : Ref sig .tc := ⟨.hbm, 9, rfl⟩
abbrev main_call0_cst_0 : Ref sig .tc := ⟨.hbm, 10, rfl⟩
abbrev main_call0_v7 : Ref sig .tc := ⟨.hbm, 11, rfl⟩
abbrev main_call0_v8 : Ref sig .tc := ⟨.hbm, 12, rfl⟩
abbrev main_call0_v9 : Ref sig .tc := ⟨.hbm, 13, rfl⟩
abbrev main_call0_v10 : Ref sig .tc := ⟨.hbm, 14, rfl⟩
abbrev main_call0_v11 : Ref sig .tc := ⟨.hbm, 15, rfl⟩
abbrev main_call0_cst_1 : Ref sig .tc := ⟨.hbm, 16, rfl⟩
abbrev main_call0_v12 : Ref sig .tc := ⟨.hbm, 17, rfl⟩
abbrev main_call0_v13 : Ref sig .tc := ⟨.hbm, 18, rfl⟩
abbrev main_call0_v14 : Ref sig .tc := ⟨.hbm, 19, rfl⟩
abbrev main_call0_cst_2 : Ref sig .tc := ⟨.hbm, 20, rfl⟩
abbrev main_call0_v15 : Ref sig .tc := ⟨.hbm, 21, rfl⟩
abbrev main_call0_v16 : Ref sig .tc := ⟨.hbm, 22, rfl⟩
abbrev main_call0_v17 : Ref sig .tc := ⟨.hbm, 23, rfl⟩
abbrev main_call0_v18 : Ref sig .tc := ⟨.hbm, 24, rfl⟩
abbrev main_call0_v19 : Ref sig .tc := ⟨.hbm, 25, rfl⟩
abbrev main_call0_cst_3 : Ref sig .tc := ⟨.hbm, 26, rfl⟩
abbrev main_call0_v20 : Ref sig .tc := ⟨.hbm, 27, rfl⟩
abbrev main_call0_v21 : Ref sig .tc := ⟨.hbm, 28, rfl⟩
abbrev main_call0_cst_4 : Ref sig .tc := ⟨.hbm, 29, rfl⟩
abbrev main_call0_v22 : Ref sig .tc := ⟨.hbm, 30, rfl⟩
abbrev main_call0_cst_5 : Ref sig .tc := ⟨.hbm, 31, rfl⟩
abbrev main_call0_v23 : Ref sig .tc := ⟨.hbm, 32, rfl⟩
abbrev main_call0_v24 : Ref sig .tc := ⟨.hbm, 33, rfl⟩
abbrev main_call0_v25 : Ref sig .tc := ⟨.hbm, 34, rfl⟩
abbrev main_call0_v26 : Ref sig .tc := ⟨.hbm, 35, rfl⟩
abbrev main_call0_v27 : Ref sig .tc := ⟨.hbm, 36, rfl⟩
abbrev main_call0_v28 : Ref sig .tc := ⟨.hbm, 37, rfl⟩
abbrev main_call0_v29 : Ref sig .tc := ⟨.hbm, 38, rfl⟩
abbrev main_call0_v30 : Ref sig .tc := ⟨.hbm, 39, rfl⟩
abbrev main_call0_v31 : Ref sig .tc := ⟨.hbm, 40, rfl⟩
abbrev main_call0_v32 : Ref sig .tc := ⟨.hbm, 41, rfl⟩
abbrev main_call0_cst_6 : Ref sig .tc := ⟨.hbm, 42, rfl⟩
abbrev main_call0_v33 : Ref sig .tc := ⟨.hbm, 43, rfl⟩
abbrev main_call0_v34 : Ref sig .tc := ⟨.hbm, 44, rfl⟩
abbrev main_call0_v35 : Ref sig .tc := ⟨.hbm, 45, rfl⟩
abbrev main_call0_v36 : Ref sig .tc := ⟨.hbm, 46, rfl⟩
abbrev main_call0_v37 : Ref sig .tc := ⟨.hbm, 47, rfl⟩
abbrev main_call0_v38 : Ref sig .tc := ⟨.hbm, 48, rfl⟩
abbrev main_call0_cst_7 : Ref sig .tc := ⟨.hbm, 49, rfl⟩
abbrev main_call0_v39 : Ref sig .tc := ⟨.hbm, 50, rfl⟩
abbrev main_call0_v40 : Ref sig .tc := ⟨.hbm, 51, rfl⟩
abbrev main_call0_v41 : Ref sig .tc := ⟨.hbm, 52, rfl⟩
abbrev main_call0_v42 : Ref sig .tc := ⟨.hbm, 53, rfl⟩
abbrev main_call0_v43 : Ref sig .tc := ⟨.hbm, 54, rfl⟩
abbrev main_call0_v44 : Ref sig .tc := ⟨.hbm, 55, rfl⟩
abbrev main_call0_cst_8 : Ref sig .tc := ⟨.hbm, 56, rfl⟩
abbrev main_call0_v45 : Ref sig .tc := ⟨.hbm, 57, rfl⟩
abbrev main_v0 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4096x6 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x8x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x4096x3 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x3x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x3x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x4096x3 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x4x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S4x4096x6 : Shape := ⟨3, ![4, 4096, 6]⟩
abbrev S4x4096x3 : Shape := ⟨3, ![4, 4096, 3]⟩
abbrev S_ : Shape := ⟨0, ![]⟩
abbrev S4x4096 : Shape := ⟨2, ![4, 4096]⟩
abbrev S4x4096x4096 : Shape := ⟨3, ![4, 4096, 4096]⟩
abbrev S4x4096x1 : Shape := ⟨3, ![4, 4096, 1]⟩
abbrev S4x1x4096 : Shape := ⟨3, ![4, 1, 4096]⟩
abbrev S4x4096x3x1 : Shape := ⟨4, ![4, 4096, 3, 1]⟩
abbrev S1 : Shape := ⟨1, ![1]⟩
abbrev S1x1x1x1 : Shape := ⟨4, ![1, 1, 1, 1]⟩

abbrev nBuf : Space → Nat
  | .hbm => 151
  | .vmem => 0
  | .smem => 0
  | _ => 0

abbrev hbmTy0_0 (i : Nat) : BufTy := match i % 128 with
  | 0 => ⟨S4x4096x6, .f32⟩
  | 1 => ⟨S4x4096x6, .f32⟩
  | 2 => ⟨S4x4096x3, .f32⟩
  | 3 => ⟨S4x4096x3, .f32⟩
  | 4 => ⟨S4x4096x3, .f32⟩
  | 5 => ⟨S_, .f32⟩
  | 6 => ⟨S4x4096, .f32⟩
  | 7 => ⟨S4x4096x3, .f32⟩
  | 8 => ⟨S_, .f32⟩
  | 9 => ⟨S4x4096, .f32⟩
  | 10 => ⟨S4x4096x4096, .f32⟩
  | 11 => ⟨S4x4096x1, .f32⟩
  | 12 => ⟨S4x1x4096, .f32⟩
  | 13 => ⟨S4x4096x4096, .f32⟩
  | 14 => ⟨S4x4096x4096, .f32⟩
  | 15 => ⟨S4x4096x4096, .f32⟩
  | 16 => ⟨S_, .f32⟩
  | 17 => ⟨S4x4096x4096, .f32⟩
  | 18 => ⟨S4x4096x4096, .f32⟩
  | 19 => ⟨S4x4096x4096, .f32⟩
  | 20 => ⟨S_, .f32⟩
  | 21 => ⟨S4x4096, .f32⟩
  | 22 => ⟨S4x4096x4096, .i32⟩
  | 23 => ⟨S_, .f32⟩
  | 24 => ⟨S_, .i32⟩
  | 25 => ⟨S4x4096, .f32⟩
  | 26 => ⟨S4x4096, .i32⟩
  | 27 => ⟨S_, .f32⟩
  | 28 => ⟨S4x4096, .f32⟩
  | 29 => ⟨S4x4096x4096, .i32⟩
  | 30 => ⟨S_, .f32⟩
  | 31 => ⟨S_, .i32⟩
  | 32 => ⟨S4x4096, .f32⟩
  | 33 => ⟨S4x4096, .i32⟩
  | 34 => ⟨S4x4096x3, .f32⟩
  | 35 => ⟨S4x4096x3, .f32⟩
  | 36 => ⟨S4x4096x1, .i32⟩
  | 37 => ⟨S4x4096x3, .i32⟩
  | 38 => ⟨S_, .i32⟩
  | 39 => ⟨S4x4096x3, .i32⟩
  | 40 => ⟨S4x4096x3, .i1⟩
  | 41 => ⟨S_, .i32⟩
  | 42 => ⟨S4x4096x3, .i32⟩
  | 43 => ⟨S4x4096x3, .i32⟩
  | 44 => ⟨S4x4096x3, .i32⟩
  | 45 => ⟨S4x4096x3x1, .i32⟩
  | 46 => ⟨S1, .i32⟩
  | 47 => ⟨S_, .i32⟩
  | 48 => ⟨S4x4096x3x1, .i32⟩
  | 49 => ⟨S4x4096x3x1, .i1⟩
  | 50 => ⟨S1x1x1x1, .i32⟩
  | 51 => ⟨S4x4096x3x1, .i32⟩
  | 52 => ⟨S4x4096x3x1, .i1⟩
  | 53 => ⟨S4x4096x3x1, .i1⟩
  | 54 => ⟨S_, .i1⟩
  | 55 => ⟨S4x4096x3, .i1⟩
  | 56 => ⟨S4x4096x3, .f32⟩
  | 57 => ⟨S_, .f32⟩
  | 58 => ⟨S4x4096x3, .f32⟩
  | 59 => ⟨S4x4096x3, .f32⟩
  | 60 => ⟨S4x4096x1, .i32⟩
  | 61 => ⟨S4x4096x3, .i32⟩
  | 62 => ⟨S_, .i32⟩
  | 63 => ⟨S4x4096x3, .i32⟩
  | 64 => ⟨S4x4096x3, .i1⟩
  | 65 => ⟨S_, .i32⟩
  | 66 => ⟨S4x4096x3, .i32⟩
  | 67 => ⟨S4x4096x3, .i32⟩
  | 68 => ⟨S4x4096x3, .i32⟩
  | 69 => ⟨S4x4096x3x1, .i32⟩
  | 70 => ⟨S1, .i32⟩
  | 71 => ⟨S_, .i32⟩
  | 72 => ⟨S4x4096x3x1, .i32⟩
  | 73 => ⟨S4x4096x3x1, .i1⟩
  | 74 => ⟨S1x1x1x1, .i32⟩
  | 75 => ⟨S4x4096x3x1, .i32⟩
  | 76 => ⟨S4x4096x3x1, .i1⟩
  | 77 => ⟨S4x4096x3x1, .i1⟩
  | 78 => ⟨S_, .i1⟩
  | 79 => ⟨S4x4096x3, .i1⟩
  | 80 => ⟨S4x4096x3, .f32⟩
  | 81 => ⟨S_, .f32⟩
  | 82 => ⟨S4x4096x3, .f32⟩
  | 83 => ⟨S4x4096x3, .f32⟩
  | 84 => ⟨S4x4096x3, .f32⟩
  | 85 => ⟨S_, .f32⟩
  | 86 => ⟨S4x4096, .f32⟩
  | 87 => ⟨S4x4096x1, .f32⟩
  | 88 => ⟨S4x4096x1, .f32⟩
  | 89 => ⟨S_, .f32⟩
  | 90 => ⟨S4x4096x1, .f32⟩
  | 91 => ⟨S4x4096x1, .f32⟩
  | 92 => ⟨S4x4096x3, .f32⟩
  | 93 => ⟨S4x4096x3, .f32⟩
  | 94 => ⟨S4x4096x3, .f32⟩
  | 95 => ⟨S_, .f32⟩
  | 96 => ⟨S4x4096, .f32⟩
  | 97 => ⟨S4x4096x1, .f32⟩
  | 98 => ⟨S4x4096x1, .f32⟩
  | 99 => ⟨S_, .f32⟩
  | 100 => ⟨S4x4096x1, .f32⟩
  | 101 => ⟨S4x4096x1, .f32⟩
  | 102 => ⟨S4x4096x3, .f32⟩
  | 103 => ⟨S4x4096x3, .f32⟩
  | 104 => ⟨S4x4096x3, .f32⟩
  | 105 => ⟨S4x4096x3, .f32⟩
  | 106 => ⟨S_, .f32⟩
  | 107 => ⟨S4x4096, .f32⟩
  | 108 => ⟨S4x4096x3, .f32⟩
  | 109 => ⟨S_, .f32⟩
  | 110 => ⟨S4x4096, .f32⟩
  | 111 => ⟨S4x4096x1, .f32⟩
  | 112 => ⟨S4x4096x1, .f32⟩
  | 113 => ⟨S_, .f32⟩
  | 114 => ⟨S4x4096x1, .f32⟩
  | 115 => ⟨S4x4096x1, .f32⟩
  | 116 => ⟨S4x4096x3, .f32⟩
  | 117 => ⟨S4x4096x3, .f32⟩
  | 118 => ⟨S4x4096x3, .f32⟩
  | 119 => ⟨S_, .f32⟩
  | 120 => ⟨S4x4096, .f32⟩
  | 121 => ⟨S4x4096x1, .f32⟩
  | 122 => ⟨S4x4096x1, .f32⟩
  | 123 => ⟨S_, .f32⟩
  | 124 => ⟨S4x4096x1, .f32⟩
  | 125 => ⟨S4x4096x1, .f32⟩
  | 126 => ⟨S4x4096x3, .f32⟩
  | 127 => ⟨S4x4096x3, .f32⟩
  | _ => ⟨S4x4096x6, .f32⟩

abbrev hbmTy0_1 (i : Nat) : BufTy := match i % 128 with
  | 0 => ⟨S4x4096x3, .f32⟩
  | 1 => ⟨S4x4096x3, .f32⟩
  | 2 => ⟨S_, .f32⟩
  | 3 => ⟨S4x4096, .f32⟩
  | 4 => ⟨S_, .f32⟩
  | 5 => ⟨S_, .f32⟩
  | 6 => ⟨S_, .f32⟩
  | 7 => ⟨S_, .f32⟩
  | 8 => ⟨S_, .f32⟩
  | 9 => ⟨S_, .f32⟩
  | 10 => ⟨S_, .f32⟩
  | 11 => ⟨S_, .f32⟩
  | 12 => ⟨S_, .f32⟩
  | 13 => ⟨S_, .f32⟩
  | 14 => ⟨S_, .f32⟩
  | 15 => ⟨S_, .f32⟩
  | 16 => ⟨S_, .f32⟩
  | 17 => ⟨S_, .f32⟩
  | 18 => ⟨S_, .f32⟩
  | 19 => ⟨S_, .f32⟩
  | 20 => ⟨S_, .f32⟩
  | 21 => ⟨S_, .f32⟩
  | 22 => ⟨S_, .f32⟩
  | _ => ⟨S4x4096x6, .f32⟩

abbrev hbmTy (i : Nat) : BufTy := match i / 128 with
  | 0 => hbmTy0_0 i
  | 1 => hbmTy0_1 i
  | _ => ⟨S4x4096x6, .f32⟩

abbrev bufTy : (tb : Table) → Fin (tcTables nBuf tb) → BufTy
  | .hbm, ⟨i, _⟩ => hbmTy i
  | _, _ => ⟨S4x4096x6, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_2 : Ref sig .tc := ⟨.hbm, 20, rfl⟩
abbrev main_v15 : Ref sig .tc := ⟨.hbm, 21, rfl⟩
abbrev main_call0_v0 : Ref sig .tc := ⟨.hbm, 22, rfl⟩
abbrev main_call0_cst : Ref sig .tc := ⟨.hbm, 23, rfl⟩
abbrev main_call0_c : Ref sig .tc := ⟨.hbm, 24, rfl⟩
abbrev main_call0_v1_0 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_call1_v0 : Ref sig .tc := ⟨.hbm, 29, rfl⟩
abbrev main_call1_cst : Ref sig .tc := ⟨.hbm, 30, rfl⟩
abbrev main_call1_c : Ref sig .tc := ⟨.hbm, 31, rfl⟩
abbrev main_call1_v1_0 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_call2_c : Ref sig .tc := ⟨.hbm, 38, rfl⟩
abbrev main_call2_v0 : Ref sig .tc := ⟨.hbm, 39, rfl⟩
abbrev main_call2_v1 : Ref sig .tc := ⟨.hbm, 40, rfl⟩
abbrev main_call2_c_0 : Ref sig .tc := ⟨.hbm, 41, rfl⟩
abbrev main_call2_v2 : Ref sig .tc := ⟨.hbm, 42, rfl⟩
abbrev main_call2_v3 : Ref sig .tc := ⟨.hbm, 43, rfl⟩
abbrev main_call2_v4 : Ref sig .tc := ⟨.hbm, 44, rfl⟩
abbrev main_call2_v5 : Ref sig .tc := ⟨.hbm, 45, rfl⟩
abbrev main_call2_c_1 : Ref sig .tc := ⟨.hbm, 46, rfl⟩
abbrev main_call2_c_2 : Ref sig .tc := ⟨.hbm, 47, rfl⟩
abbrev main_call2_v6 : Ref sig .tc := ⟨.hbm, 48, rfl⟩
abbrev main_call2_v7 : Ref sig .tc := ⟨.hbm, 49, rfl⟩
abbrev main_call2_v8 : Ref sig .tc := ⟨.hbm, 50, rfl⟩
abbrev main_call2_v9 : Ref sig .tc := ⟨.hbm, 51, rfl⟩
abbrev main_call2_v10 : Ref sig .tc := ⟨.hbm, 52, rfl⟩
abbrev main_call2_v11 : Ref sig .tc := ⟨.hbm, 53, rfl⟩
abbrev main_call2_c_3 : Ref sig .tc := ⟨.hbm, 54, rfl⟩
abbrev main_call2_v12 : Ref sig .tc := ⟨.hbm, 55, rfl⟩
abbrev main_call2_v13 : Ref sig .tc := ⟨.hbm, 56, rfl⟩
abbrev main_call2_cst : Ref sig .tc := ⟨.hbm, 57, rfl⟩
abbrev main_call2_v14 : Ref sig .tc := ⟨.hbm, 58, rfl⟩
abbrev main_v23 : Ref sig .tc := ⟨.hbm, 59, rfl⟩
abbrev main_v24 : Ref sig .tc := ⟨.hbm, 60, rfl⟩
abbrev main_v25 : Ref sig .tc := ⟨.hbm, 61, rfl⟩
abbrev main_call3_c : Ref sig .tc := ⟨.hbm, 62, rfl⟩
abbrev main_call3_v0 : Ref sig .tc := ⟨.hbm, 63, rfl⟩
abbrev main_call3_v1 : Ref sig .tc := ⟨.hbm, 64, rfl⟩
abbrev main_call3_c_0 : Ref sig .tc := ⟨.hbm, 65, rfl⟩
abbrev main_call3_v2 : Ref sig .tc := ⟨.hbm, 66, rfl⟩
abbrev main_call3_v3 : Ref sig .tc := ⟨.hbm, 67, rfl⟩
abbrev main_call3_v4 : Ref sig .tc := ⟨.hbm, 68, rfl⟩
abbrev main_call3_v5 : Ref sig .tc := ⟨.hbm, 69, rfl⟩
abbrev main_call3_c_1 : Ref sig .tc := ⟨.hbm, 70, rfl⟩
abbrev main_call3_c_2 : Ref sig .tc := ⟨.hbm, 71, rfl⟩
abbrev main_call3_v6 : Ref sig .tc := ⟨.hbm, 72, rfl⟩
abbrev main_call3_v7 : Ref sig .tc := ⟨.hbm, 73, rfl⟩
abbrev main_call3_v8 : Ref sig .tc := ⟨.hbm, 74, rfl⟩
abbrev main_call3_v9 : Ref sig .tc := ⟨.hbm, 75, rfl⟩
abbrev main_call3_v10 : Ref sig .tc := ⟨.hbm, 76, rfl⟩
abbrev main_call3_v11 : Ref sig .tc := ⟨.hbm, 77, rfl⟩
abbrev main_call3_c_3 : Ref sig .tc := ⟨.hbm, 78, rfl⟩
abbrev main_call3_v12 : Ref sig .tc := ⟨.hbm, 79, rfl⟩
abbrev main_call3_v13 : Ref sig .tc := ⟨.hbm, 80, rfl⟩
abbrev main_call3_cst : Ref sig .tc := ⟨.hbm, 81, rfl⟩
abbrev main_call3_v14 : Ref sig .tc := ⟨.hbm, 82, rfl⟩
abbrev main_v26 : Ref sig .tc := ⟨.hbm, 83, rfl⟩
abbrev main_v27 : Ref sig .tc := ⟨.hbm, 84, rfl⟩
abbrev main_cst_4 : Ref sig .tc := ⟨.hbm, 85, rfl⟩
abbrev main_v28 : Ref sig .tc := ⟨.hbm, 86, rfl⟩
abbrev main_v29 : Ref sig .tc := ⟨.hbm, 87, rfl⟩
abbrev main_v30 : Ref sig .tc := ⟨.hbm, 88, rfl⟩
abbrev main_cst_5 : Ref sig .tc := ⟨.hbm, 89, rfl⟩
abbrev main_v31 : Ref sig .tc := ⟨.hbm, 90, rfl⟩
abbrev main_v32 : Ref sig .tc := ⟨.hbm, 91, rfl⟩
abbrev main_v33 : Ref sig .tc := ⟨.hbm, 92, rfl⟩
abbrev main_v34 : Ref sig .tc := ⟨.hbm, 93, rfl⟩
abbrev main_v35 : Ref sig .tc := ⟨.hbm, 94, rfl⟩
abbrev main_cst_6 : Ref sig .tc := ⟨.hbm, 95, rfl⟩
abbrev main_v36 : Ref sig .tc := ⟨.hbm, 96, rfl⟩
abbrev main_v37 : Ref sig .tc := ⟨.hbm, 97, rfl⟩
abbrev main_v38 : Ref sig .tc := ⟨.hbm, 98, rfl⟩
abbrev main_cst_7 : Ref sig .tc := ⟨.hbm, 99, rfl⟩
abbrev main_v39 : Ref sig .tc := ⟨.hbm, 100, rfl⟩
abbrev main_v40 : Ref sig .tc := ⟨.hbm, 101, rfl⟩
abbrev main_v41 : Ref sig .tc := ⟨.hbm, 102, rfl⟩
abbrev main_v42 : Ref sig .tc := ⟨.hbm, 103, rfl⟩
abbrev main_v43 : Ref sig .tc := ⟨.hbm, 104, rfl⟩
abbrev main_v44 : Ref sig .tc := ⟨.hbm, 105, rfl⟩
abbrev main_cst_8 : Ref sig .tc := ⟨.hbm, 106, rfl⟩
abbrev main_v45 : Ref sig .tc := ⟨.hbm, 107, rfl⟩
abbrev main_v46 : Ref sig .tc := ⟨.hbm, 108, rfl⟩
abbrev main_cst_9 : Ref sig .tc := ⟨.hbm, 109, rfl⟩
abbrev main_v47 : Ref sig .tc := ⟨.hbm, 110, rfl⟩
abbrev main_v48 : Ref sig .tc := ⟨.hbm, 111, rfl⟩
abbrev main_v49 : Ref sig .tc := ⟨.hbm, 112, rfl⟩
abbrev main_cst_10 : Ref sig .tc := ⟨.hbm, 113, rfl⟩
abbrev main_v50 : Ref sig .tc := ⟨.hbm, 114, rfl⟩
abbrev main_v51 : Ref sig .tc := ⟨.hbm, 115, rfl⟩
abbrev main_v52 : Ref sig .tc := ⟨.hbm, 116, rfl⟩
abbrev main_v53 : Ref sig .tc := ⟨.hbm, 117, rfl⟩
abbrev main_v54 : Ref sig .tc := ⟨.hbm, 118, rfl⟩
abbrev main_cst_11 : Ref sig .tc := ⟨.hbm, 119, rfl⟩
abbrev main_v55 : Ref sig .tc := ⟨.hbm, 120, rfl⟩
abbrev main_v56 : Ref sig .tc := ⟨.hbm, 121, rfl⟩
abbrev main_v57 : Ref sig .tc := ⟨.hbm, 122, rfl⟩
abbrev main_cst_12 : Ref sig .tc := ⟨.hbm, 123, rfl⟩
abbrev main_v58 : Ref sig .tc := ⟨.hbm, 124, rfl⟩
abbrev main_v59 : Ref sig .tc := ⟨.hbm, 125, rfl⟩
abbrev main_v60 : Ref sig .tc := ⟨.hbm, 126, rfl⟩
abbrev main_v61 : Ref sig .tc := ⟨.hbm, 127, rfl⟩
abbrev main_v62 : Ref sig .tc := ⟨.hbm, 128, rfl⟩
abbrev main_v63 : Ref sig .tc := ⟨.hbm, 129, rfl⟩
abbrev main_cst_13 : Ref sig .tc := ⟨.hbm, 130, rfl⟩
abbrev main_v64 : Ref sig .tc := ⟨.hbm, 131, rfl⟩
abbrev main_cst_14 : Ref sig .tc := ⟨.hbm, 132, rfl⟩
abbrev main_v65 : Ref sig .tc := ⟨.hbm, 133, rfl⟩
abbrev main_cst_15 : Ref sig .tc := ⟨.hbm, 134, rfl⟩
abbrev main_v66 : Ref sig .tc := ⟨.hbm, 135, rfl⟩
abbrev main_cst_16 : Ref sig .tc := ⟨.hbm, 136, rfl⟩
abbrev main_v67 : Ref sig .tc := ⟨.hbm, 137, rfl⟩
abbrev main_cst_17 : Ref sig .tc := ⟨.hbm, 138, rfl⟩
abbrev main_v68 : Ref sig .tc := ⟨.hbm, 139, rfl⟩
abbrev main_v69 : Ref sig .tc := ⟨.hbm, 140, rfl⟩
abbrev main_cst_18 : Ref sig .tc := ⟨.hbm, 141, rfl⟩
abbrev main_v70 : Ref sig .tc := ⟨.hbm, 142, rfl⟩
abbrev main_cst_19 : Ref sig .tc := ⟨.hbm, 143, rfl⟩
abbrev main_v71 : Ref sig .tc := ⟨.hbm, 144, rfl⟩
abbrev main_v72 : Ref sig .tc := ⟨.hbm, 145, rfl⟩
abbrev main_cst_20 : Ref sig .tc := ⟨.hbm, 146, rfl⟩
abbrev main_v73 : Ref sig .tc := ⟨.hbm, 147, rfl⟩
abbrev main_cst_21 : Ref sig .tc := ⟨.hbm, 148, rfl⟩
abbrev main_v74 : Ref sig .tc := ⟨.hbm, 149, rfl⟩
abbrev main_v75 : Ref sig .tc := ⟨.hbm, 150, rfl⟩

abbrev nD : Nat := 1
abbrev τ : Topo := Topo.v7x

variable {F : FTy → Type} [FloatOps F]
-- ==== Proof.BodyKernelIdeal.lean ====
/- The body of the pallas_call of `KernelIdeal`, run on whole blocks, and the run of its @main built on it. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameSuffix
public import Idealize.ShloMosaic.Lib.Claim
public import Idealize.ShloMosaic.Lib.Ring
public import Idealize.ShloMosaic.Lib.Tactic

@[expose] public section

set_option maxRecDepth 65536

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The rectangles the body reads and writes -/

/-- Columns `1024 c` to `1024 c + 1023` of the eight coordinate rows of the first cloud. -/
abbrev cols (c : Fin 4) : Rect S1x8x4096 := Rect.unit (s := S1x8x4096) ![0, 0, 1024 * c.val] S1x8x1024.size (by
  fin_cases c
  exacts [inb_S1x8x4096_S1x8x1024_0_0_0, inb_S1x8x4096_S1x8x1024_0_0_1024, inb_S1x8x4096_S1x8x1024_0_0_2048, inb_S1x8x4096_S1x8x1024_0_0_3072])
/-- The same columns of the first cloud's normals. -/
abbrev nrms (c : Fin 4) : Rect S1x3x4096 := Rect.unit (s := S1x3x4096) ![0, 0, 1024 * c.val] S1x3x1024.size (by
  fin_cases c
  exacts [inb_S1x3x4096_S1x3x1024_0_0_0, inb_S1x3x4096_S1x3x1024_0_0_1024, inb_S1x3x4096_S1x3x1024_0_0_2048, inb_S1x3x4096_S1x3x1024_0_0_3072])
/-- The same points as rows, of the first cloud's normals stored point by point. -/
abbrev rows (c : Fin 4) : Rect S1x4096x3 := Rect.unit (s := S1x4096x3) ![0, 1024 * c.val, 0] S1x1024x3.size (by
  fin_cases c
  exacts [inb_S1x4096x3_S1x1024x3_0_0_0, inb_S1x4096x3_S1x1024x3_0_1024_0, inb_S1x4096x3_S1x1024x3_0_2048_0, inb_S1x4096x3_S1x1024x3_0_3072_0])
/-- Row `r` of the output block. -/
abbrev lane (r : Fin 4) : Rect S1x4x128 := Rect.unit (s := S1x4x128) ![0, r.val, 0] S1x1x128.size (by
  fin_cases r
  exacts [inb_S1x4x128_S1x1x128_0_0_0, inb_S1x4x128_S1x1x128_0_1_0, inb_S1x4x128_S1x1x128_0_2_0, inb_S1x4x128_S1x1x128_0_3_0])
/-- The whole block of the second cloud. -/
abbrev pts : Rect S1x4096x6 := Rect.unit (s := S1x4096x6) ![0, 0, 0] S1x4096x6.size inb_S1x4096x6_S1x4096x6_0_0_0
/-- The whole block of the second cloud's normals, coordinate by coordinate. -/
abbrev nrmT : Rect S1x3x4096 := Rect.unit (s := S1x3x4096) ![0, 0, 0] S1x3x4096.size inb_S1x3x4096_S1x3x4096_0_0_0
/-- The whole block of the second cloud's normals, point by point. -/
abbrev nrmW : Rect S1x4096x3 := Rect.unit (s := S1x4096x3) ![0, 0, 0] S1x4096x3.size inb_S1x4096x3_S1x4096x3_0_0_0

/-! ## What the body computes, chunk by chunk -/

/-- The squared distances of the second cloud's points (rows) to chunk `c` of the first cloud's (columns). -/
def dist (x0 : Vec F S1x4096x6 .f32) (x1 : Vec F S1x8x4096 .f32) (c : Fin 4) : FVec F S4096x1024 .f32 :=
  k0_pay14 (k0_pay4 (View.ld x0 pts)) (View.ld x1 (cols c))
/-- The sum of the column minima of four chunks, one chunk after another. -/
def colSum (D : Fin 4 → FVec F S4096x1024 .f32) : F .f32 :=
  k0_pay35 (k0_pay35 (k0_pay35 (k0_pay35 (Scalar.ofBits .f32 0x00000000#32) (D 0)) (D 1)) (D 2)) (D 3)
/-- The sum over four chunks of the squared differences of a column's normal and its nearest row's. -/
def colNormals (D : Fin 4 → FVec F S4096x1024 .f32) (n2 : FVec F S3x4096 .bf16) (n1 : Fin 4 → Vec F S1x3x1024 .f32) : F .f32 :=
  k0_pay36 n2 (k0_pay36 n2 (k0_pay36 n2 (k0_pay36 n2 (Scalar.ofBits .f32 0x00000000#32) (D 0) (n1 0)) (D 1) (n1 1)) (D 2) (n1 2)) (D 3) (n1 3)
/-- The row minima over the first two chunks. -/
def min2 (D : Fin 4 → FVec F S4096x1024 .f32) : FVec F S4096x1 .f32 := k0_pay40 (k0_pay37 (D 0)) (D 1)
/-- The row minima over the first three chunks. -/
def min3 (D : Fin 4 → FVec F S4096x1024 .f32) : FVec F S4096x1 .f32 := k0_pay40 (min2 D) (D 2)
/-- The normal of each row's nearest column among the first three chunks. -/
def pick3 (D : Fin 4 → FVec F S4096x1024 .f32) (n1 : Fin 4 → Vec F S1x1024x3 .bf16) : FVec F S4096x3 .f32 :=
  k0_pay32 (min2 D) (k0_pay32 (k0_pay37 (D 0)) (k0_pay38 (D 0) (n1 0)) (D 1) (n1 1)) (D 2) (n1 2)

/-- The output block the body leaves: four rows, each one number repeated. -/
def out (x0 : Vec F S1x4096x6 .f32) (x1 : Vec F S1x8x4096 .f32) (x2 : Vec F S1x4096x3 .bf16) (x3 : Vec F S1x3x4096 .f32)
    (x4 : Vec F S1x3x4096 .bf16) (x5 : Vec F S1x4096x3 .f32) : Vec F S1x4x128 .f32 :=
  View.canon [
    ⟨lane 3, k0_pay1 (k0_pay45 (k0_pay3 (View.ld x5 nrmW)) (pick3 (dist x0 x1) fun c => View.ld x2 (rows c))
      (k0_pay38 (dist x0 x1 3) (View.ld x2 (rows 3))) (k0_pay41 (min3 (dist x0 x1)) (dist x0 x1 3)))⟩,
    ⟨lane 2, k0_pay44 (k0_pay40 (min3 (dist x0 x1)) (dist x0 x1 3))⟩,
    ⟨lane 1, k0_pay43 (colNormals (dist x0 x1) (k0_pay2 (View.ld x4 nrmT)) fun c => View.ld x3 (nrms c))⟩,
    ⟨lane 0, k0_pay42 (colSum (dist x0 x1))⟩]

/-- The four rows make up the whole output block. -/
theorem cover (p0 p1 p2 p3 : Vec F S1x1x128 .f32) (y : S1x4x128.Idx) :
    ∃ pc ∈ ([⟨lane 3, p0⟩, ⟨lane 2, p1⟩, ⟨lane 1, p2⟩, ⟨lane 0, p3⟩] : List (View.Piece (Elt F) S1x4x128 .f32)), y ∈ pc.1.set :=
  View.cover_of_tiled [⟨lane 3, p0⟩, ⟨lane 2, p1⟩, ⟨lane 1, p2⟩, ⟨lane 0, p3⟩] S1x1x128.size (by rfl) y

set_option maxHeartbeats 4000000 in
/-- The body, from its six input blocks, leaves them in place and writes `out` of them. -/
theorem body_run (c : Dev nD) (E : Set ℕ) (i : grid0.Coords)
    (a1 : Memref sig .tc .vmem S1x4096x6 .f32) (h1 : a1.IsWhole) (a2 : Memref sig .tc .vmem S1x8x4096 .f32) (h2 : a2.IsWhole)
    (a3 : Memref sig .tc .vmem S1x4096x3 .bf16) (h3 : a3.IsWhole) (a4 : Memref sig .tc .vmem S1x3x4096 .f32) (h4 : a4.IsWhole)
    (a5 : Memref sig .tc .vmem S1x3x4096 .bf16) (h5 : a5.IsWhole) (a6 : Memref sig .tc .vmem S1x4096x3 .f32) (h6 : a6.IsWhole)
    (a7 : Memref sig .tc .vmem S1x4x128 .f32) (h7 : a7.IsWhole)
    (x0 : Vec F S1x4096x6 .f32) (x1 : Vec F S1x8x4096 .f32) (x2 : Vec F S1x4096x3 .bf16) (x3 : Vec F S1x3x4096 .f32)
    (x4 : Vec F S1x3x4096 .bf16) (x5 : Vec F S1x4096x3 .f32) (K : PUnit → sProp 𝕄) :
    iprop(owns (c : Thread nD τ) a1 fullShare x0 ∗ owns (c : Thread nD τ) a2 fullShare x1 ∗ owns (c : Thread nD τ) a3 fullShare x2
        ∗ owns (c : Thread nD τ) a4 fullShare x3 ∗ owns (c : Thread nD τ) a5 fullShare x4 ∗ owns (c : Thread nD τ) a6 fullShare x5
        ∗ (∃ d, owns (c : Thread nD τ) a7 fullShare d)
        ∗ (iprop(owns (c : Thread nD τ) a1 fullShare x0 ∗ owns (c : Thread nD τ) a2 fullShare x1 ∗ owns (c : Thread nD τ) a3 fullShare x2
          ∗ owns (c : Thread nD τ) a4 fullShare x3 ∗ owns (c : Thread nD τ) a5 fullShare x4 ∗ owns (c : Thread nD τ) a6 fullShare x5
          ∗ owns (c : Thread nD τ) a7 fullShare (out x0 x1 x2 x3 x4 x5)) -∗ K ⟨⟩))
      ⊢ wp frame (wpE (defs₀ (F := F)) Variants.none c none) E
          (cc0__chamfer_body i a1 h1 a2 h2 a3 h3 a4 h4 a5 h5 a6 h6 a7 h7) K := by
  simp only [cc0__chamfer_body_eq_skeleton]; unfold cc0__chamfer_body_skel
  simp only [k0_part6_eq_skeleton]; unfold k0_part6_skel
  simp only [k0_part1_eq_skeleton, k0_part2_eq_skeleton, k0_part3_eq_skeleton, k0_part4_eq_skeleton, k0_part5_eq_skeleton]
  unfold k0_part1_skel k0_part2_skel k0_part3_skel k0_part4_skel k0_part5_skel owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  iexists _; isplitr
  swap; · iexact H6
  ipureintro
  dsimp only
  exact View.read_writes_eq_canon _ _ _ (cover _ _ _ _)

/-! ## The pipeline around the body -/

variable (m : (ℓ : Loc nD τ sig) → Buf (Elt F) ℓ) (ρ : Dev nD → PrngReg)

/-- A buffer of the TensorCore when the pallas_call begins: the host lines before it have run. -/
abbrev V (c : Dev nD) (b : Ref sig .tc) : Buf (Elt F) ((c : Thread nD τ).loc b) := StableHlo.after hostOps0 (fun b => m (c, b)) b

/-- The block of window `w`'s array at grid point `t`. -/
def blk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Each input window is left at its block, the output window at `out` of the six blocks. -/
def dats (_ : Fin 1) (c : Dev nD) : Dat τ (Elt F) Unit ℕ (UR sig nD τ) ℕ cfg0 c where
  A w := V m c (Pipeline.arrRef spec0 w)
  after w t := match w with
    | ⟨0, _⟩ => blk m c 0 t
    | ⟨1, _⟩ => blk m c 1 t
    | ⟨2, _⟩ => blk m c 2 t
    | ⟨3, _⟩ => blk m c 3 t
    | ⟨4, _⟩ => blk m c 4 t
    | ⟨5, _⟩ => blk m c 5 t
    | ⟨6, _⟩ => out (blk m c 0 t) (blk m c 1 t) (blk m c 2 t) (blk m c 3 t) (blk m c 4 t) (blk m c 5 t)
  Φ _ := Pipeline.ΦA spec0 c
  q _ := fullShare
  owed _ := 0

/-- The body finds in an input window's staging buffer what it leaves there: that window's block. -/
theorem found {c : Dev nD} (dat : Dat τ (Elt F) Unit ℕ (UR sig nD τ) ℕ cfg0 c) (w : Fin cfg0.W) (hw : (cfg0.win w).isOut = false)
    (hi : ∀ i, cfg0.idle w i = false)
    (hc : ∀ t t' : Fin cfg0.N, (cfg0.win w).index t = (cfg0.win w).index t' → (cfg0.win w).clip (cfg0.grid.coords t) = (cfg0.win w).clip (cfg0.grid.coords t'))
    (hx : ∀ t d, dat.fetched w t d = dat.after w t) (t : Fin cfg0.N) (d) : dat.before w t d = dat.after w t :=
  (dat.before_in_eq_fetched w hw hi hc (fun t => by rw [← hx t d]; exact (cfg0.win w).cut_fill _ _ _) t d).trans (hx t d)

set_option maxHeartbeats 1000000 in
/-- What the pipeline asks of the body at every grid point. -/
theorem body_obligation (c : Dev nD) : BodyObligation (dats (F := F) m 0 c) (defs₀ (F := F)) Variants.none () Set.univ := fun t => by
  rw [bigSep_W0, bigSep_W0]
  simp only [found (dats m 0 c) 0 rfl (fun _ => rfl) (fun _ _ _ => rfl) (fun _ _ => rfl), found (dats m 0 c) 1 rfl (fun _ => rfl) (fun _ _ _ => rfl) (fun _ _ => rfl), found (dats m 0 c) 2 rfl (fun _ => rfl) (fun _ _ _ => rfl) (fun _ _ => rfl), found (dats m 0 c) 3 rfl (fun _ => rfl) (fun _ _ _ => rfl) (fun _ _ => rfl),
    found (dats m 0 c) 4 rfl (fun _ => rfl) (fun _ _ _ => rfl) (fun _ _ => rfl), found (dats m 0 c) 5 rfl (fun _ => rfl) (fun _ _ _ => rfl) (fun _ _ => rfl)]
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (body_run c Set.univ (grid0.coords t) _ _ _ _ _ _ _ _ _ _ _ _ _ _ (blk m c 0 t) (blk m c 1 t) (blk m c 2 t) (blk m c 3 t) (blk m c 4 t) (blk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The buffers after the host lines that follow the pallas_call. -/
abbrev final (c : Dev nD) (b : Ref sig .tc) : Buf (Elt F) ((c : Thread nD τ).loc b) :=
  Pipeline.afterTail₀ cfgs (dats m) 0 (fun c => StableHlo.after hostOps0 (fun b => m (c, b))) [hostOps1] c b

/-- No host line after the pallas_call writes a window's array. -/
theorem tail_keeps : ∀ op ∈ (hostOps1 : List (HloOp τ sig (Elt F))), ∀ w : Fin 7, Proc.devRef .tc (Pipeline.arrRef spec0 w) ∉ op.writes := by
  intro op hop w
  fin_cases hop <;> (refine fun h => StableHlo.devRef_ne_of_ne ?_ (Finset.mem_singleton.mp h); clear h; revert w; decide)

/-- Every host line after the pallas_call determines its result. -/
theorem tail_fresh : ∀ op ∈ (hostOps1 : List (HloOp τ sig (Elt F))), op.fresh = ∅ := by
  intro op hop; fin_cases hop <;> rfl

/-- Every host line before the pallas_call determines its result. -/
theorem head_fresh : ∀ op ∈ (hostOps0 : List (HloOp τ sig (Elt F))), op.fresh = ∅ := by
  intro op hop; fin_cases hop <;> rfl

set_option backward.isDefEq.respectTransparency.types false in
/-- @main terminates with every window's array as the pipeline leaves it, every other buffer as the last host lines leave
    it, and every semaphore counter at zero. -/
theorem run : θ_run defs (onTc (τ := τ) (main (F := F))) (s₀ m ρ) fun r =>
    Pipeline.FramePost cfgs (dats m) 0 (final m) r ∧ r.2.sem = fun _ => 0 :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := fun c => StableHlo.after hostOps0 (fun b => m (c, b))) (opss := [hostOps1])
    (hsub := fun ops h op ho => by
      obtain rfl := List.mem_singleton.mp h
      rw [Pipeline.tailRefs_none _ (by decide)]
      exact Pipeline.sub_ucRefs op (List.forall_iff_forall_mem.mp hostOps1_sub op ho))
    (hfresh := fun ops h => by obtain rfl := List.mem_singleton.mp h; exact tail_fresh)
    (hkeep := fun ops h => by obtain rfl := List.mem_singleton.mp h; exact tail_keeps)
    (hmain := Pipeline.hmain_around cfgs 0 defs₀ Variants.none m main [hostOps0] [hostOps1] (by simpa using hostOps0_sub)
      (List.forall_iff_forall_mem.mpr fun ops h => by obtain rfl := List.mem_singleton.mp h; exact List.forall_iff_forall_mem.mpr head_fresh) main_chain)
    (hA := fun _ _ => rfl) (hΦ := fun _ _ => rfl) (Q' := _) (hQ' := fun _ h => h)

/-- At the end both argument arrays are as they were at the start. -/
theorem args_kept {r : PUnit × MemSt nD τ sig (Elt F)} (h : Pipeline.FramePost cfgs (dats m) 0 (final m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1) := by
  constructor
  · refine ((h c).2 main_arg0 (Pipeline.mem_restRefs_of _ rfl (by decide))).trans ?_
    unfold final Pipeline.afterTail₀
    rw [List.flatten_singleton]
    after_results
    rw [Pipeline.withArrays_of_ne _ _ _ _ main_arg0 (by decide)]
    show StableHlo.after hostOps0 (fun b => m (c, b)) (Proc.devRef .tc main_arg0) = _
    after_results
  · refine ((h c).1 0).trans (((dats m 0 c).arrAt_in 0 rfl _).trans ?_)
    show StableHlo.after hostOps0 (fun b => m (c, b)) (Proc.devRef .tc main_arg1) = _
    after_results

/-- The kernel's result buffer at the end. -/
theorem result_read {r : PUnit × MemSt nD τ sig (Elt F)} (h : Pipeline.FramePost cfgs (dats m) 0 (final m) r) (c : Dev nD) :
    r.2.mem ((c.tc : Thread nD τ).loc main_v0) = final m c main_v0 :=
  (h c).2 main_v0 (Pipeline.mem_restRefs_of _ rfl (by decide))

end Cert.KernelIdeal.Body

end
-- ==== Proof.Reals.lean ====
/- Real-number facts used on both sides: sums and minima of finite values among the extended reals, the literals of the two
   programs, unit vectors, and the choice among four chunks. -/
module

public import Idealize.ShloMosaic.PureOps.Ideal
public import Idealize.ShloMosaic.Lib.IdealHost
public import Idealize.ShloMosaic.Lib.Pipeline.ValueKit

@[expose] public section

noncomputable section

namespace Cert.Math

open Idealize.ShloMosaic

/-- A finite sum of reals is the same sum among the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The larger of two reals, among the extended reals. -/
theorem coe_max (a b : ℝ) : max (a : EReal) (b : EReal) = ((max a b : ℝ) : EReal) :=
  (EReal.coe_strictMono.monotone.map_max).symm

/-- The smaller of two reals, among the extended reals. -/
theorem coe_min (a b : ℝ) : min (a : EReal) (b : EReal) = ((min a b : ℝ) : EReal) :=
  (EReal.coe_strictMono.monotone.map_min).symm

/-- The minimum of a family, taken from plus infinity, is its value at an index where it is least. -/
theorem fold_min_eq {ι : Type*} [Fintype ι] (f : ι → ℝ) (i₀ : ι) (h : ∀ i, f i₀ ≤ f i) :
    (Finset.univ : Finset ι).fold min (⊤ : EReal) (fun i => (f i : EReal)) = (f i₀ : EReal) := by
  refine le_antisymm ?_ ?_
  · exact (Finset.fold_min_le _).2 (Or.inr ⟨i₀, Finset.mem_univ _, le_rfl⟩)
  · exact (Finset.le_fold_min _).2 ⟨le_top, fun i _ => EReal.coe_le_coe_iff.2 (h i)⟩

/-- A quotient of reals whose divisor is not zero. -/
theorem coe_div {a b : ℝ} (hb : b ≠ 0) : Ideal.div (a : EReal) (b : EReal) = ((a / b : ℝ) : EReal) := by
  rw [Ideal.div, if_neg (by exact_mod_cast hb), ← EReal.coe_inv, ← EReal.coe_mul, div_eq_mul_inv]

/-- The square root of a real that is not negative. -/
theorem coe_sqrt {a : ℝ} (ha : 0 ≤ a) : Ideal.sqrt (a : EReal) = ((Real.sqrt a : ℝ) : EReal) := by
  show (if a < 0 then (⊥ : EReal) else ((Real.sqrt a : ℝ) : EReal)) = _
  rw [if_neg (not_lt.2 ha)]

/-! ## The literals of the programs -/

/-- The small positive number the norms are kept above. -/
def eps : ℝ := 9223372 * 2 ^ (-63 : ℤ)

theorem eps_pos : 0 < eps := by unfold eps; positivity
theorem eps_le_one : eps ≤ 1 := by unfold eps; norm_num
theorem lit_eps : Ideal.ofBits .f32 0x2B8CBCCC#32 = ((eps : ℝ) : EReal) := by
  simp [Ideal.ofBits, Ideal.ieee, -EReal.coe_mul, eps]
theorem lit_top : Ideal.ofBits .f32 0x7F800000#32 = ⊤ := by simp [Ideal.ofBits, Ideal.ieee]
theorem lit_zero : Ideal.ofBits .f32 0x00000000#32 = ((0 : ℝ) : EReal) := by simp [Ideal.ofBits, Ideal.ieee]
theorem lit_one : Ideal.ofBits .f32 0x3F800000#32 = ((1 : ℝ) : EReal) := by
  simp [Ideal.ofBits, Ideal.ieee, -EReal.coe_mul]; norm_num
theorem lit_two : Ideal.ofBits .f32 0x40000000#32 = ((2 : ℝ) : EReal) := by
  simp [Ideal.ofBits, Ideal.ieee, -EReal.coe_mul]; norm_num
theorem lit_neg_two : Ideal.ofBits .f32 0xC0000000#32 = ((-2 : ℝ) : EReal) := by
  simp [Ideal.ofBits, Ideal.ieee, -EReal.coe_mul, -EReal.coe_neg]; norm_num
theorem lit_count : Ideal.ofBits .f32 0x46800000#32 = ((16384 : ℝ) : EReal) := by
  simp [Ideal.ofBits, Ideal.ieee, -EReal.coe_mul]; norm_num

/-! ## Unit vectors -/

/-- The length of a vector of three coordinates, kept above `eps`. -/
def len (v : Fin 3 → ℝ) : ℝ := max (Real.sqrt (∑ k, v k * v k)) eps

theorem len_pos (v : Fin 3 → ℝ) : 0 < len v := lt_max_of_lt_right eps_pos

/-- The vector divided by its length. -/
def unit (v : Fin 3 → ℝ) (k : Fin 3) : ℝ := v k / len v

theorem sum_sq_nonneg (v : Fin 3 → ℝ) : 0 ≤ ∑ k, v k * v k := Finset.sum_nonneg fun k _ => mul_self_nonneg _

/-- The length the programs compute. -/
theorem coe_len (v : Fin 3 → ℝ) :
    max (Ideal.sqrt (∑ k, (v k : EReal) * (v k : EReal))) ((eps : ℝ) : EReal) = ((len v : ℝ) : EReal) := by
  simp only [← EReal.coe_mul, ← coe_sum]
  rw [coe_sqrt (sum_sq_nonneg v), coe_max, len]

/-- The unit vector the programs compute. -/
theorem coe_unit (v : Fin 3 → ℝ) (k : Fin 3) : Ideal.div (v k : EReal) ((len v : ℝ) : EReal) = ((unit v k : ℝ) : EReal) :=
  coe_div (len_pos v).ne'

/-- A vector that is zero or not shorter than `eps`: dividing its unit vector by its length again changes nothing. -/
theorem unit_unit (v : Fin 3 → ℝ) (h : Real.sqrt (∑ k, v k * v k) = 0 ∨ eps ≤ Real.sqrt (∑ k, v k * v k)) (k : Fin 3) :
    unit v k * (1 / len (unit v)) = unit v k := by
  rcases h with h | h
  · have h0 : ∑ k, v k * v k = 0 := (Real.sqrt_eq_zero (sum_sq_nonneg v)).1 h
    have hk : v k = 0 := mul_self_eq_zero.1 ((Finset.sum_eq_zero_iff_of_nonneg fun k _ => mul_self_nonneg (v k)).1 h0 k (Finset.mem_univ _))
    rw [unit, hk, zero_div, zero_mul]
  · have hl : len v = Real.sqrt (∑ k, v k * v k) := max_eq_left h
    have h1 : ∑ k, unit v k * unit v k = 1 := by
      have : ∀ k, unit v k * unit v k = v k * v k / (len v * len v) := fun k => by rw [unit, div_mul_div_comm]
      rw [Finset.sum_congr rfl fun k _ => this k, ← Finset.sum_div, div_eq_one_iff_eq (mul_pos (len_pos v) (len_pos v)).ne', hl,
        Real.mul_self_sqrt (sum_sq_nonneg v)]
    rw [len, h1, Real.sqrt_one, max_eq_left eps_le_one, div_one, mul_one]

/-! ## Infinite coordinates -/

/-- Plus or minus infinity. -/
def Inf (x : EReal) : Prop := x = ⊤ ∨ x = ⊥

theorem real_of_not_inf {x : EReal} (h : ¬ Inf x) : x = ((x.toReal : ℝ) : EReal) :=
  (EReal.coe_toReal (fun e => h (Or.inl e)) fun e => h (Or.inr e)).symm

theorem sq_nonneg' (x : EReal) : 0 ≤ x * x := by
  induction x with
  | bot => simp
  | top => simp
  | coe r => exact_mod_cast mul_self_nonneg r

/-- A sum of squares is infinite with one of its terms. -/
theorem sum_sq_top (v : Fin 3 → EReal) (j : Fin 3) (h : Inf (v j)) : ∑ k, v k * v k = ⊤ := by
  have hj : v j * v j = ⊤ := by rcases h with e | e <;> simp [e]
  refine top_le_iff.1 (hj ▸ Finset.single_le_sum (f := fun k => v k * v k) (fun i _ => sq_nonneg' (v i)) (Finset.mem_univ j))

theorem sum_sq_ne_bot (v : Fin 3 → EReal) : ∑ k, v k * v k ≠ ⊥ :=
  (lt_of_lt_of_le EReal.bot_lt_zero (Finset.sum_nonneg fun i _ => sq_nonneg' (v i))).ne'

/-- A row of extended reals divided by its length, kept above `eps`. -/
def unitRow (v : Fin 3 → EReal) (k : Fin 3) : EReal :=
  Ideal.div (v k) (max (Ideal.sqrt (∑ k, v k * v k)) ((eps : ℝ) : EReal))

/-- On reals it is the unit vector; -/
theorem unitRow_coe (v : Fin 3 → ℝ) (k : Fin 3) : unitRow (fun k => (v k : EReal)) k = ((unit v k : ℝ) : EReal) := by
  rw [unitRow, coe_len, coe_unit]

/-- with an infinite coordinate it is zero. -/
theorem unitRow_inf (v : Fin 3 → EReal) (j : Fin 3) (h : Inf (v j)) (k : Fin 3) : unitRow v k = 0 := by
  rw [unitRow, sum_sq_top v j h, show Ideal.sqrt ⊤ = ⊤ from rfl, max_eq_left le_top, Ideal.div, if_neg (by simp), EReal.inv_top, mul_zero]

/-- Either way it is the unit vector of some reals, which are zero or not shorter than `eps` where the row is. -/
theorem unitRow_real (v : Fin 3 → EReal)
    (h : Ideal.sqrt (∑ k, v k * v k) = 0 ∨ ((eps : ℝ) : EReal) ≤ Ideal.sqrt (∑ k, v k * v k)) :
    ∃ n : Fin 3 → ℝ, (√(∑ k, n k * n k) = 0 ∨ eps ≤ √(∑ k, n k * n k)) ∧ ∀ k, unitRow v k = ((unit n k : ℝ) : EReal) := by
  by_cases hj : ∃ j, Inf (v j)
  · obtain ⟨j, hj⟩ := hj
    exact ⟨fun _ => 0, Or.inl (by simp), fun k => by rw [unitRow_inf v j hj k]; simp [unit]⟩
  · have e : v = fun k => (((v k).toReal : ℝ) : EReal) := funext fun k => real_of_not_inf fun i => hj ⟨k, i⟩
    refine ⟨fun k => (v k).toReal, ?_, fun k => ?_⟩
    · rw [e] at h
      simp only [EReal.toReal_coe, ← EReal.coe_mul, ← coe_sum] at h
      rw [coe_sqrt (sum_sq_nonneg fun k => (v k).toReal)] at h
      exact_mod_cast h
    · rw [← unitRow_coe, ← e]

/-- A sum of three that is plus infinity has such a term. -/
theorem exists_top (f : Fin 3 → EReal) (h : ∑ k, f k = ⊤) : ∃ k, f k = ⊤ := by
  by_contra hn
  rw [Fin.sum_univ_three] at h
  exact EReal.add_ne_top (EReal.add_ne_top (fun e => hn ⟨0, e⟩) fun e => hn ⟨1, e⟩) (fun e => hn ⟨2, e⟩) h

/-- The squared distance from an infinite point is plus infinity, or it is minus infinity and so is a product of coordinates. -/
theorem pair_inf (x y : Fin 3 → EReal) (j : Fin 3) (h : Inf (x j) ∨ Inf (y j)) :
    (∑ k, x k * x k) + (∑ k, y k * y k) - ((2 : ℝ) : EReal) * ∑ k, x k * y k = ⊤ ∨
      (∑ k, x k * x k) + (∑ k, y k * y k) - ((2 : ℝ) : EReal) * ∑ k, x k * y k = ⊥ ∧ ∃ k, x k * y k = ⊤ := by
  have hs : (∑ k, x k * x k) + (∑ k, y k * y k) = ⊤ := by
    rcases h with h | h
    · rw [sum_sq_top x j h, EReal.top_add_of_ne_bot (sum_sq_ne_bot y)]
    · rw [sum_sq_top y j h, EReal.add_top_of_ne_bot (sum_sq_ne_bot x)]
  rw [hs]
  have hp : (0 : ℝ) < 2 := by norm_num
  generalize hI : ∑ k, x k * y k = I
  induction I with
  | top => exact Or.inr ⟨by rw [EReal.coe_mul_top_of_pos hp]; rfl, exists_top _ hI⟩
  | bot => exact Or.inl (by rw [EReal.coe_mul_bot_of_pos hp]; rfl)
  | coe r => exact Or.inl (by rw [← EReal.coe_mul]; rfl)

/-- A product that is plus infinity, turned round. -/
theorem neg_two_top {a b : EReal} (h : a * b = ⊤) : ((-2 : ℝ) : EReal) * a * b = ⊥ := by
  rw [mul_assoc, h, EReal.coe_mul_top_of_neg (by norm_num)]

/-- A minimum is minus infinity with one of its terms. -/
theorem fold_min_bot {ι : Type*} [Fintype ι] (f : ι → EReal) (i : ι) (h : f i = ⊥) :
    (Finset.univ : Finset ι).fold min (⊤ : EReal) f = ⊥ :=
  le_bot_iff.1 ((Finset.fold_min_le _).2 (Or.inr ⟨i, Finset.mem_univ _, h.le⟩))

/-- A sum is minus infinity with one of its terms. -/
theorem sum_bot {ι : Type*} [Fintype ι] (f : ι → EReal) (i : ι) (h : f i = ⊥) : ∑ j, f j = ⊥ := by
  classical
  rw [← Finset.add_sum_erase _ _ (Finset.mem_univ i), h, EReal.bot_add]

/-- Minus infinity over a positive number. -/
theorem bot_div {c : ℝ} (hc : 0 < c) : Ideal.div ⊥ (c : EReal) = ⊥ := by
  rw [Ideal.div, if_neg (by exact_mod_cast hc.ne'), ← EReal.coe_inv, EReal.bot_mul_coe_of_pos (inv_pos.2 hc)]

/-! ## The nearest of four chunks -/

/-- The running minimum over four chunks ends at the value that is below every other chunk's. -/
theorem least_of_four (r : Fin 4 → ℝ) (c : Fin 4) (h : ∀ d, d ≠ c → r c < r d) :
    min (min (min (r 0) (r 1)) (r 2)) (r 3) = r c := by
  have hle : ∀ d, r c ≤ r d := fun d => by
    by_cases e : d = c
    · rw [e]
    · exact (h d e).le
  refine le_antisymm ?_ (le_min (le_min (le_min (hle 0) (hle 1)) (hle 2)) (hle 3))
  fin_cases c <;> simp

/-- The running strict comparison over four chunks ends at what the chunk carries whose value is below every other's. -/
theorem pick_of_four {α : Type*} (r : Fin 4 → ℝ) (T : Fin 4 → α) (c : Fin 4) (h : ∀ d, d ≠ c → r c < r d) :
    (if r 3 < min (min (r 0) (r 1)) (r 2) then T 3 else if r 2 < min (r 0) (r 1) then T 2 else if r 1 < r 0 then T 1 else T 0)
      = T c := by
  match c, h with
  | 0, h =>
    have h1 := h 1 (by decide); have h2 := h 2 (by decide); have h3 := h 3 (by decide)
    rw [if_neg (by simp [h3.le]), if_neg (by simp [h2.le]), if_neg h1.le.not_gt]
  | 1, h =>
    have h0 := h 0 (by decide); have h2 := h 2 (by decide); have h3 := h 3 (by decide)
    rw [if_neg (by simp [h3.le]), if_neg (by simp [h2.le]), if_pos h0]
  | 2, h =>
    have h0 := h 0 (by decide); have h1 := h 1 (by decide); have h3 := h 3 (by decide)
    rw [if_neg (by simp [h3.le]), if_pos (lt_min h0 h1)]
  | 3, h =>
    have h0 := h 0 (by decide); have h1 := h 1 (by decide); have h2 := h 2 (by decide)
    rw [if_pos (lt_min (lt_min h0 h1) h2)]

end Cert.Math

end
-- ==== Proof.Chunk.lean ====
/- One chunk of the body at a time: what each step of it computes, from finite inputs, as real numbers. -/
module

public import proofs.«01_k».proof.Proof.BodyKernelIdeal
public import proofs.«01_k».proof.Proof.Reals
public import Idealize.ShloMosaic.Lib.Pointwise
public import Idealize.ShloMosaic.Lib.ValueIdx

@[expose] public section

set_option maxRecDepth 65536

noncomputable section

namespace Cert.Math

/-- The squared distance of two points, multiplied out. -/
def dsq (p q : Fin 3 → ℝ) : ℝ := (∑ k, p k * p k) + (∑ k, q k * q k) - 2 * ∑ k, p k * q k

end Cert.Math

namespace Cert.KernelIdeal.Chunk

open Cert.KernelIdeal Cert.KernelIdeal.Gen Cert.KernelIdeal.Body Cert.Math
open Idealize.ShloMosaic Idealize.ShloMosaic.TcCoe

/-- A truth value turned into a number: one or zero. -/
theorem hot (P : Prop) [Decidable P] :
    FloatOps.sitofp (F := Ideal) .f32 (BitVec.setWidth 32 (BitVec.ofBool (decide P))) = if P then (1 : EReal) else 0 := by
  by_cases h : P
  · rw [if_pos h, decide_eq_true h]
    show (((BitVec.setWidth 32 (BitVec.ofBool true)).toInt : ℝ) : EReal) = 1
    rw [show (BitVec.setWidth 32 (BitVec.ofBool true)).toInt = 1 from by decide]; norm_num
  · rw [if_neg h, decide_eq_false h]
    show (((BitVec.setWidth 32 (BitVec.ofBool false)).toInt : ℝ) : EReal) = 0
    rw [show (BitVec.setWidth 32 (BitVec.ofBool false)).toInt = 0 from by decide]; norm_num

/-- A choice by a truth value. -/
theorem select_decide {α : Type} (P : Prop) [Decidable P] (a b : α) :
    Scalar.select (BitVec.ofBool (decide P)) a b = if P then a else b := by
  by_cases h : P <;> simp [Scalar.select, h]

/-- The product of the two eight-coordinate arrays is the squared distance. -/
theorem dist_at (x : Vec Ideal S1x4096x6 .f32) (w : Vec Ideal S1x8x1024 .f32) (n : Fin 4096) (j : Fin 1024) (p q : Fin 3 → ℝ)
    (hx : ∀ k : Fin 3, x (ix3 0 n ⟨k.val, by omega⟩) = ((q k : ℝ) : EReal))
    (hw : ∀ k : Fin 3, w (ix3 0 ⟨k.val, by omega⟩ j) = ((p k : ℝ) : EReal))
    (hw3 : w (ix3 0 3 j) = ((∑ k, p k * p k : ℝ) : EReal)) (hw4 : w (ix3 0 4 j) = ((1 : ℝ) : EReal)) :
    k0_pay14 (k0_pay4 x) w (ix2 n j) = ((dsq p q : ℝ) : EReal) := by
  have x0 : x (ix3 0 n 0) = _ := hx 0
  have x1 : x (ix3 0 n 1) = _ := hx 1
  have x2 : x (ix3 0 n 2) = _ := hx 2
  have w0 : w (ix3 0 0 j) = _ := hw 0
  have w1 : w (ix3 0 1 j) = _ := hw 1
  have w2 : w (ix3 0 2 j) = _ := hw 2
  have two : (⟨2, by omega⟩ : Fin 6) = 2 := rfl
  pointwise [k0_pay14, k0_pay4]
  rw [Fin.sum_univ_eight]
  simp only [show ((0 : Fin 8) : ℕ) = 0 from rfl, show ((1 : Fin 8) : ℕ) = 1 from rfl, show ((2 : Fin 8) : ℕ) = 2 from rfl,
    show ((3 : Fin 8) : ℕ) = 3 from rfl, show ((4 : Fin 8) : ℕ) = 4 from rfl, show ((5 : Fin 8) : ℕ) = 5 from rfl,
    show ((6 : Fin 8) : ℕ) = 6 from rfl, show ((7 : Fin 8) : ℕ) = 7 from rfl]
  norm_num
  simp only [two, hx, x0, x1, x2, w0, w1, w2, hw3, hw4, lit_neg_two, ← EReal.coe_mul, ← coe_sum, ← EReal.coe_add]
  refine congrArg _ ?_
  simp only [dsq, Fin.sum_univ_three]
  ring

/-- The product is minus infinity where a product of coordinates is plus infinity. -/
theorem dist_bot (x : Vec Ideal S1x4096x6 .f32) (w : Vec Ideal S1x8x1024 .f32) (n : Fin 4096) (j : Fin 1024) (k : Fin 3)
    (h : x (ix3 0 n ⟨k.val, by omega⟩) * w (ix3 0 ⟨k.val, by omega⟩ j) = ⊤) : k0_pay14 (k0_pay4 x) w (ix2 n j) = ⊥ := by
  pointwise [k0_pay14, k0_pay4]
  refine sum_bot _ (⟨k.val, by omega⟩ : Fin 8) ?_
  have hk := k.isLt
  dsimp only
  rw [dif_pos (by omega)]
  rw [lit_neg_two]
  exact neg_two_top h

/-- A column's minimum is attained at its nearest row. -/
theorem colMin_at (D : FVec Ideal S4096x1024 .f32) (d : Fin 4096 → Fin 1024 → ℝ) (hD : ∀ n j, D (ix2 n j) = ((d n j : ℝ) : EReal))
    (j : Fin 1024) (i : Fin 4096) (hi : ∀ n, d i j ≤ d n j) : k0_pay34 D (ix2 0 j) = ((d i j : ℝ) : EReal) := by
  pointwise [k0_pay34]
  simp only [hD, lit_top]
  exact fold_min_eq (fun n => d n j) i hi

/-- A row's minimum is attained at its nearest column. -/
theorem rowMin_at (D : FVec Ideal S4096x1024 .f32) (d : Fin 4096 → Fin 1024 → ℝ) (hD : ∀ n j, D (ix2 n j) = ((d n j : ℝ) : EReal))
    (n : Fin 4096) (i : Fin 1024) (hi : ∀ j, d n i ≤ d n j) : k0_pay37 D (ix2 n 0) = ((d n i : ℝ) : EReal) := by
  pointwise [k0_pay37]
  simp only [hD, lit_top]
  exact fold_min_eq (fun j => d n j) i hi

/-- The running sum of a chunk's column minima, in general: -/
theorem colSum_add (s : EReal) (D : FVec Ideal S4096x1024 .f32) :
    k0_pay35 (F := Ideal) s D = s + ∑ j : Fin 1024, (Finset.univ : Finset (Fin 4096)).fold min (⊤ : EReal) (fun n => D (ix2 n j)) := by
  pointwise [k0_pay35, k0_pay34]
  simp only [lit_top]
  rw [Fin.sum_univ_one]

/-- minus infinity, with any of its entries. -/
theorem colSum_bot (s : EReal) (D : FVec Ideal S4096x1024 .f32) (n : Fin 4096) (j : Fin 1024) (h : D (ix2 n j) = ⊥) :
    k0_pay35 (F := Ideal) s D = ⊥ := by
  rw [colSum_add, sum_bot _ j (fold_min_bot (fun n => D (ix2 n j)) n h), EReal.add_bot]

/-- Once minus infinity, it stays so. -/
theorem bot_colSum (D : FVec Ideal S4096x1024 .f32) : k0_pay35 (F := Ideal) (⊥ : EReal) D = ⊥ := by
  rw [colSum_add, EReal.bot_add]

/-- The running sum takes in a chunk's column minima. -/
theorem colSum_step (s : ℝ) (D : FVec Ideal S4096x1024 .f32) (d : Fin 4096 → Fin 1024 → ℝ)
    (hD : ∀ n j, D (ix2 n j) = ((d n j : ℝ) : EReal)) (σ : Fin 1024 → Fin 4096) (hσ : ∀ j n, d (σ j) j ≤ d n j) :
    k0_pay35 (F := Ideal) ((s : ℝ) : EReal) D = ((s + ∑ j, d (σ j) j : ℝ) : EReal) := by
  have h := fun j => fold_min_eq (fun n => d n j) (σ j) (hσ j)
  rw [colSum_add, EReal.coe_add, coe_sum]
  simp only [hD, h]

/-- The running sum takes in a chunk's squared differences of normals. -/
theorem colNormals_step (v : FVec Ideal S3x4096 .bf16) (s : ℝ) (D : FVec Ideal S4096x1024 .f32) (w : Vec Ideal S1x3x1024 .f32)
    (d : Fin 4096 → Fin 1024 → ℝ) (hD : ∀ n j, D (ix2 n j) = ((d n j : ℝ) : EReal))
    (σ : Fin 1024 → Fin 4096) (hσ : ∀ j n, n ≠ σ j → d (σ j) j < d n j)
    (u : Fin 4096 → Fin 3 → ℝ) (hv : ∀ k n, v (ix2 k n) = ((u n k : ℝ) : EReal)) (hu : ∀ n k, u n k * (1 / len (u n)) = u n k)
    (t : Fin 1024 → Fin 3 → ℝ) (hw : ∀ k j, w (ix3 0 k j) = ((t j k : ℝ) : EReal)) :
    k0_pay36 (F := Ideal) v ((s : ℝ) : EReal) D w
      = ((s + ∑ j, ∑ k, (t j k - u (σ j) k) * (t j k - u (σ j) k) : ℝ) : EReal) := by
  have hle : ∀ j n, d (σ j) j ≤ d n j := fun j n => by
    by_cases e : n = σ j
    · rw [e]
    · exact (hσ j n e).le
  have h := fun j => colMin_at D d hD j (σ j) (hle j)
  have hc : ∀ (k : Fin 3) (j : Fin 1024), (∑ n, ((u n k : ℝ) : EReal) * if d n j = d (σ j) j then (1 : EReal) else 0) = ((u (σ j) k : ℝ) : EReal) := by
    intro k j
    rw [Finset.sum_eq_single (σ j) (fun n _ hn => by rw [if_neg (hσ j n hn).ne', mul_zero]) fun h => absurd (Finset.mem_univ _) h,
      if_pos rfl, mul_one]
  pointwise [k0_pay36]
  simp only [h, hD, hv, hw, hot, EReal.coe_eq_coe_iff, hc, lit_eps, coe_len]
  have h1 : ∀ j, Ideal.div (1 : EReal) ((len (u (σ j)) : ℝ) : EReal) = ((1 / len (u (σ j)) : ℝ) : EReal) :=
    fun j => coe_div (a := 1) (len_pos _).ne'
  simp only [h1, ← EReal.coe_mul, hu, ← EReal.coe_sub, ← coe_sum, ← EReal.coe_add]
  rw [Finset.sum_comm]

/-- The product with the indicator of a row's minimum takes out the nearest column's normal. -/
theorem hit_at (D : FVec Ideal S4096x1024 .f32) (x : Vec Ideal S1x1024x3 .bf16) (d : Fin 4096 → Fin 1024 → ℝ)
    (hD : ∀ n j, D (ix2 n j) = ((d n j : ℝ) : EReal)) (n : Fin 4096) (k : Fin 3) (i : Fin 1024) (hi : ∀ j, j ≠ i → d n i < d n j) :
    k0_pay38 D x (ix2 n k) = x (ix3 0 i k) := by
  have h := rowMin_at D d hD n i fun j => by
    by_cases e : j = i
    · rw [e]
    · exact (hi j e).le
  pointwise [k0_pay38]
  simp only [h, hD, hot, EReal.coe_eq_coe_iff]
  rw [Finset.sum_eq_single i (fun j _ hj => by rw [if_neg (hi j hj).ne', zero_mul]) fun h => absurd (Finset.mem_univ _) h,
    if_pos rfl, one_mul]

/-- The running row minimum takes in a chunk, -/
theorem min_step (a : FVec Ideal S4096x1 .f32) (D : FVec Ideal S4096x1024 .f32) (n : Fin 4096) (α r : ℝ)
    (ha : a (ix2 n 0) = ((α : ℝ) : EReal)) (hr : k0_pay37 D (ix2 n 0) = ((r : ℝ) : EReal)) :
    k0_pay40 a D (ix2 n 0) = ((min α r : ℝ) : EReal) := by
  pointwise [k0_pay40, k0_pay39]
  simp only [ha, hr, select_decide, EReal.coe_lt_coe_iff]
  by_cases h : r < α
  · rw [if_pos h, min_eq_right h.le]
  · rw [if_neg h, min_eq_left (not_lt.1 h)]

/-- and the running choice of normals with it. -/
theorem pick_step (a : FVec Ideal S4096x1 .f32) (T : FVec Ideal S4096x3 .f32) (D : FVec Ideal S4096x1024 .f32)
    (x : Vec Ideal S1x1024x3 .bf16) (n : Fin 4096) (k : Fin 3) (α r : ℝ)
    (ha : a (ix2 n 0) = ((α : ℝ) : EReal)) (hr : k0_pay37 D (ix2 n 0) = ((r : ℝ) : EReal)) :
    k0_pay32 a T D x (ix2 n k) = if r < α then k0_pay38 D x (ix2 n k) else T (ix2 n k) := by
  have hr' : k0_pay29 D (ix2 n 0) = ((r : ℝ) : EReal) := hr
  pointwise [k0_pay32, k0_pay30, k0_pay38]
  simp only [ha, hr, hr', select_decide, EReal.coe_lt_coe_iff]

/-- The mask of the last chunk. -/
theorem mask_at (a : FVec Ideal S4096x1 .f32) (D : FVec Ideal S4096x1024 .f32) (n : Fin 4096) (α r : ℝ)
    (ha : a (ix2 n 0) = ((α : ℝ) : EReal)) (hr : k0_pay37 D (ix2 n 0) = ((r : ℝ) : EReal)) :
    k0_pay41 a D (ix2 n 0) = BitVec.ofBool (decide (r < α)) := by
  pointwise [k0_pay41, k0_pay39]
  simp only [ha, hr, EReal.coe_lt_coe_iff]

/-- The sum of the column minima, in every lane, -/
theorem lane0_at (s : Ideal .f32) (l : S1x1x128.Idx) : k0_pay42 s l = s := by
  pointwise [k0_pay42]

/-- and the sum of the columns' squared differences. -/
theorem lane1_at (s : Ideal .f32) (l : S1x1x128.Idx) : k0_pay43 s l = s := by
  pointwise [k0_pay43]

/-- The last chunk's row minima, summed over the rows, in every lane. -/
theorem rowSum_at (a : FVec Ideal S4096x1 .f32) (α : Fin 4096 → ℝ) (ha : ∀ n, a (ix2 n 0) = ((α n : ℝ) : EReal)) (l : S1x1x128.Idx) :
    k0_pay44 a l = ((∑ n, α n : ℝ) : EReal) := by
  pointwise [k0_pay44]
  simp only [ha, coe_sum]
  rw [Finset.sum_congr rfl fun n _ => Fin.sum_univ_one _]

/-- The squared differences of the rows' normals and their nearest columns', in every lane. -/
theorem rowNormals_at (x : Vec Ideal S1x4096x3 .f32) (T T' : FVec Ideal S4096x3 .f32) (msk : IVec S4096x1 1) (l : S1x1x128.Idx)
    (t : Fin 4096 → Fin 3 → ℝ) (hx : ∀ n k, x (ix3 0 n k) = ((t n k : ℝ) : EReal))
    (u : Fin 4096 → Fin 3 → ℝ) (hu : ∀ n k, u n k * (1 / len (u n)) = u n k)
    (hT : ∀ n k, Scalar.select (msk (ix2 n 0)) (T' (ix2 n k)) (T (ix2 n k)) = ((u n k : ℝ) : EReal)) :
    k0_pay1 (k0_pay45 (k0_pay3 x) T T' msk) l = ((∑ n, ∑ k, (t n k - u n k) * (t n k - u n k) : ℝ) : EReal) := by
  pointwise [k0_pay1, k0_pay45, k0_pay3]
  have h1 : ∀ n, Ideal.div (1 : EReal) ((len (u n) : ℝ) : EReal) = ((1 / len (u n) : ℝ) : EReal) :=
    fun n => coe_div (a := 1) (len_pos _).ne'
  simp only [hT, hx, lit_eps, coe_len, h1]
  simp only [← EReal.coe_mul, hu, ← EReal.coe_sub, ← coe_sum]

end Cert.KernelIdeal.Chunk

end
-- ==== Proof.Block.lean ====
/- One grid step: from finite blocks, in which every point has one nearest point, the four rows it writes. -/
module

public import proofs.«01_k».proof.Proof.Chunk

@[expose] public section

set_option maxRecDepth 65536

noncomputable section

namespace Cert.Math

/-- Point `j` of chunk `c`. -/
def point (c : Fin 4) (j : Fin 1024) : Fin 4096 := ⟨c.val * 1024 + j.val, by omega⟩

theorem point_inj {c d : Fin 4} {j i : Fin 1024} (h : point c j = point d i) : c = d ∧ j = i := by
  have := Fin.ext_iff.1 h
  simp only [point] at this
  exact ⟨Fin.ext (by omega), Fin.ext (by omega)⟩

theorem exists_point (n : Fin 4096) : ∃ c j, n = point c j :=
  ⟨⟨n.val / 1024, by omega⟩, ⟨n.val % 1024, by omega⟩, Fin.ext (by simp only [point]; omega)⟩

/-- A sum over all points, chunk by chunk. -/
theorem sum_points (f : Fin 4096 → ℝ) : ∑ n, f n = ∑ c, ∑ j, f (point c j) :=
  Idealize.ShloMosaic.Fin.sum_univ_tiles 4 1024 rfl f

/-- What a batch of the two clouds is, as real numbers: the points `p` and `q`, the unit normals `t` and `u`, and the index of each
    point's one nearest point in the other cloud. -/
structure Batch where
  p : Fin 4096 → Fin 3 → ℝ
  q : Fin 4096 → Fin 3 → ℝ
  t : Fin 4096 → Fin 3 → ℝ
  u : Fin 4096 → Fin 3 → ℝ
  σ : Fin 4096 → Fin 4096
  τ : Fin 4096 → Fin 4096
  near_σ : ∀ n m, m ≠ σ n → dsq (p n) (q (σ n)) < dsq (p n) (q m)
  near_τ : ∀ m n, n ≠ τ m → dsq (p (τ m)) (q m) < dsq (p n) (q m)
  unit_t : ∀ n k, t n k * (1 / len (t n)) = t n k
  unit_u : ∀ n k, u n k * (1 / len (u n)) = u n k

/-- The four sums a batch contributes: distances and squared differences of normals, of the first cloud's points to their nearest
    points and of the second's to theirs. -/
def Batch.sums (b : Batch) : Fin 4 → ℝ := ![
  ∑ n, dsq (b.p n) (b.q (b.σ n)),
  ∑ n, ∑ k, (b.t n k - b.u (b.σ n) k) * (b.t n k - b.u (b.σ n) k),
  ∑ m, dsq (b.p (b.τ m)) (b.q m),
  ∑ m, ∑ k, (b.u m k - b.t (b.τ m) k) * (b.u m k - b.t (b.τ m) k)]

end Cert.Math

namespace Cert.KernelIdeal.Block

open Cert.KernelIdeal Cert.KernelIdeal.Gen Cert.KernelIdeal.Body Cert.KernelIdeal.Chunk Cert.Math
open Idealize.ShloMosaic Idealize.ShloMosaic.TcCoe

/-- A chunk of the coordinate rows reads those rows at the chunk's points. -/
theorem ld_cols (x : Vec Ideal S1x8x4096 .f32) (c : Fin 4) (r : Fin 8) (j : Fin 1024) :
    View.ld x (cols c) (ix3 0 r j) = x (ix3 0 r (point c j)) := by
  refine congrArg x (funext fun a => Fin.ext ?_)
  fin_cases a <;> simp [cols, Rect.unit, point, Nat.mul_comm]

/-- So does a chunk of the normals' coordinates, -/
theorem ld_nrms (x : Vec Ideal S1x3x4096 .f32) (c : Fin 4) (r : Fin 3) (j : Fin 1024) :
    View.ld x (nrms c) (ix3 0 r j) = x (ix3 0 r (point c j)) := by
  refine congrArg x (funext fun a => Fin.ext ?_)
  fin_cases a <;> simp [nrms, Rect.unit, point, Nat.mul_comm]

/-- and a chunk of the normals stored point by point. -/
theorem ld_rows (x : Vec Ideal S1x4096x3 .bf16) (c : Fin 4) (r : Fin 3) (j : Fin 1024) :
    View.ld x (rows c) (ix3 0 j r) = x (ix3 0 (point c j) r) := by
  refine congrArg x (funext fun a => Fin.ext ?_)
  fin_cases a <;> simp [rows, Rect.unit, point, Nat.mul_comm]

/-- The points' coordinates in the whole block are the block's own. -/
theorem ld_pts (x : Vec Ideal S1x4096x6 .f32) (m : Fin 4096) (k : Fin 6) : View.ld x pts (ix3 0 m k) = x (ix3 0 m k) := by
  refine congrArg x (funext fun a => Fin.ext ?_)
  fin_cases a <;> simp [pts, Rect.unit]

/-- The first row a grid step writes is minus infinity where a product of coordinates is plus infinity. -/
theorem out_bot (x0 : Vec Ideal S1x4096x6 .f32) (x1 : Vec Ideal S1x8x4096 .f32) (x2 : Vec Ideal S1x4096x3 .bf16)
    (x3 : Vec Ideal S1x3x4096 .f32) (x4 : Vec Ideal S1x3x4096 .bf16) (x5 : Vec Ideal S1x4096x3 .f32) (n m : Fin 4096) (k : Fin 3)
    (h : x0 (ix3 0 m ⟨k.val, by omega⟩) * x1 (ix3 0 ⟨k.val, by omega⟩ n) = ⊤) (l : Fin 128) :
    out x0 x1 x2 x3 x4 x5 (ix3 0 0 l) = ⊥ := by
  have hs : colSum (dist x0 x1) = ⊥ := by
    obtain ⟨c, j, e⟩ := exists_point n
    have hd : dist x0 x1 c (ix2 m j) = ⊥ := dist_bot _ _ m j k (by rw [ld_pts, ld_cols, ← e, h])
    unfold colSum
    fin_cases c
    · rw [colSum_bot _ (dist x0 x1 0) m j hd, bot_colSum, bot_colSum, bot_colSum]
    · rw [colSum_bot _ (dist x0 x1 1) m j hd, bot_colSum, bot_colSum]
    · rw [colSum_bot _ (dist x0 x1 2) m j hd, bot_colSum]
    · exact colSum_bot _ (dist x0 x1 3) m j hd
  unfold out
  canon_tiles
  all_goals change 0 = _ at h1
  · omega
  · omega
  · omega
  · exact (lane0_at _ x).trans hs

/-- The blocks a grid step reads hold the batch `b`. -/
structure Holds (b : Batch) (x0 : Vec Ideal S1x4096x6 .f32) (x1 : Vec Ideal S1x8x4096 .f32) (x2 : Vec Ideal S1x4096x3 .bf16)
    (x3 : Vec Ideal S1x3x4096 .f32) (x4 : Vec Ideal S1x3x4096 .bf16) (x5 : Vec Ideal S1x4096x3 .f32) : Prop where
  q : ∀ m (k : Fin 3), x0 (ix3 0 m ⟨k.val, by omega⟩) = ((b.q m k : ℝ) : EReal)
  p : ∀ n (k : Fin 3), x1 (ix3 0 ⟨k.val, by omega⟩ n) = ((b.p n k : ℝ) : EReal)
  sq : ∀ n, x1 (ix3 0 3 n) = ((∑ k, b.p n k * b.p n k : ℝ) : EReal)
  one : ∀ n, x1 (ix3 0 4 n) = ((1 : ℝ) : EReal)
  t : ∀ n k, x2 (ix3 0 n k) = ((b.t n k : ℝ) : EReal)
  t' : ∀ n k, x3 (ix3 0 k n) = ((b.t n k : ℝ) : EReal)
  u' : ∀ m k, x4 (ix3 0 k m) = ((b.u m k : ℝ) : EReal)
  u : ∀ m k, x5 (ix3 0 m k) = ((b.u m k : ℝ) : EReal)

section
variable {b : Batch} {x0 : Vec Ideal S1x4096x6 .f32} {x1 : Vec Ideal S1x8x4096 .f32} {x2 : Vec Ideal S1x4096x3 .bf16}
  {x3 : Vec Ideal S1x3x4096 .f32} {x4 : Vec Ideal S1x3x4096 .bf16} {x5 : Vec Ideal S1x4096x3 .f32} (h : Holds b x0 x1 x2 x3 x4 x5)
include h

/-- A chunk's distances. -/
theorem dist_chunk (c : Fin 4) (m : Fin 4096) (j : Fin 1024) :
    dist x0 x1 c (ix2 m j) = ((dsq (b.p (point c j)) (b.q m) : ℝ) : EReal) := by
  refine dist_at _ _ m j _ _ (fun k => ?_) (fun k => (ld_cols x1 c _ j).trans (h.p _ k)) ((ld_cols x1 c 3 j).trans (h.sq _))
    ((ld_cols x1 c 4 j).trans (h.one _))
  rw [← h.q m k]
  exact ld_pts x0 m _

/-- The sum of the column minima over the four chunks. -/
theorem colSum_eq : colSum (dist x0 x1) = ((b.sums 0 : ℝ) : EReal) := by
  have st := fun c s => colSum_step s (dist x0 x1 c) (fun m j => dsq (b.p (point c j)) (b.q m)) (dist_chunk h c)
    (fun j => b.σ (point c j)) fun j m => by
      by_cases e : m = b.σ (point c j)
      · rw [e]
      · exact (b.near_σ _ _ e).le
  unfold colSum
  rw [show Scalar.ofBits (F := Ideal) .f32 0x00000000#32 = ((0 : ℝ) : EReal) from lit_zero, st, st, st, st]
  refine congrArg _ ?_
  show _ = ∑ n, dsq (b.p n) (b.q (b.σ n))
  rw [sum_points, Fin.sum_univ_four, zero_add]

/-- The sum of the squared differences of the columns' normals and their nearest rows'. -/
theorem colNormals_eq :
    colNormals (dist x0 x1) (k0_pay2 (View.ld x4 nrmT)) (fun c => View.ld x3 (nrms c)) = ((b.sums 1 : ℝ) : EReal) := by
  have hv : ∀ k n, k0_pay2 (View.ld x4 nrmT) (ix2 k n) = ((b.u n k : ℝ) : EReal) := fun k n => by
    rw [← h.u' n k]
    pointwise [k0_pay2]
  have st := fun c s => colNormals_step (k0_pay2 (View.ld x4 nrmT)) s (dist x0 x1 c) (View.ld x3 (nrms c))
    (fun m j => dsq (b.p (point c j)) (b.q m)) (dist_chunk h c) (fun j => b.σ (point c j)) (fun j m e => b.near_σ _ _ e)
    b.u hv b.unit_u (fun j => b.t (point c j)) (fun k j => (ld_nrms x3 c k j).trans (h.t' _ _))
  unfold colNormals
  rw [show Scalar.ofBits (F := Ideal) .f32 0x00000000#32 = ((0 : ℝ) : EReal) from lit_zero, st, st, st, st]
  refine congrArg _ ?_
  show _ = ∑ n, ∑ k, (b.t n k - b.u (b.σ n) k) * (b.t n k - b.u (b.σ n) k)
  rw [sum_points, Fin.sum_univ_four, zero_add]

/-- Each row has a least distance in each chunk; the chunk of the row's nearest point has a smaller one than every other. -/
theorem row_minima (m : Fin 4096) : ∃ (r : Fin 4 → ℝ) (c : Fin 4) (j : Fin 1024), b.τ m = point c j
    ∧ (∀ d, k0_pay37 (dist x0 x1 d) (ix2 m 0) = ((r d : ℝ) : EReal)) ∧ r c = dsq (b.p (b.τ m)) (b.q m) ∧ ∀ d, d ≠ c → r c < r d := by
  have ex : ∀ d : Fin 4, ∃ i : Fin 1024, ∀ j, dsq (b.p (point d i)) (b.q m) ≤ dsq (b.p (point d j)) (b.q m) := fun d =>
    Finite.exists_min _
  choose i hi using ex
  obtain ⟨c, j, e⟩ := exists_point (b.τ m)
  have hc : i c = j := by
    by_contra hn
    have := b.near_τ m (point c (i c)) fun h' => hn (point_inj (h'.trans e)).2
    rw [e] at this
    exact absurd (hi c j) (not_le.2 this)
  refine ⟨fun d => dsq (b.p (point d (i d))) (b.q m), c, j, e, fun d => ?_, ?_, fun d hd => ?_⟩
  · exact rowMin_at (dist x0 x1 d) (fun m j => dsq (b.p (point d j)) (b.q m)) (dist_chunk h d) m (i d) (hi d)
  · show dsq (b.p (point c (i c))) (b.q m) = _
    rw [hc, e]
  · show dsq (b.p (point c (i c))) (b.q m) < dsq (b.p (point d (i d))) (b.q m)
    rw [hc, ← e]
    exact b.near_τ m _ fun h' => hd (point_inj (h'.trans e)).1

/-- The row minimum over all four chunks. -/
theorem rowMin_eq (m : Fin 4096) :
    k0_pay40 (min3 (dist x0 x1)) (dist x0 x1 3) (ix2 m 0) = ((dsq (b.p (b.τ m)) (b.q m) : ℝ) : EReal) := by
  obtain ⟨r, c, j, e, hr, hc, hlt⟩ := row_minima h m
  have h2 : min2 (dist x0 x1) (ix2 m 0) = _ := min_step (k0_pay37 (dist x0 x1 0)) (dist x0 x1 1) m _ _ (hr 0) (hr 1)
  have h3 := min_step (min2 (dist x0 x1)) (dist x0 x1 2) m _ _ h2 (hr 2)
  rw [min_step (min3 (dist x0 x1)) (dist x0 x1 3) m _ _ h3 (hr 3), least_of_four r c hlt, hc]

/-- The normal of the row's nearest column, chosen among the four chunks. -/
theorem rowPick_eq (m : Fin 4096) (k : Fin 3) :
    Scalar.select (k0_pay41 (min3 (dist x0 x1)) (dist x0 x1 3) (ix2 m 0)) (k0_pay38 (dist x0 x1 3) (View.ld x2 (rows 3)) (ix2 m k))
      (pick3 (dist x0 x1) (fun c => View.ld x2 (rows c)) (ix2 m k)) = ((b.t (b.τ m) k : ℝ) : EReal) := by
  obtain ⟨r, c, j, e, hr, hc, hlt⟩ := row_minima h m
  have h2 : min2 (dist x0 x1) (ix2 m 0) = _ := min_step (k0_pay37 (dist x0 x1 0)) (dist x0 x1 1) m _ _ (hr 0) (hr 1)
  have h3 := min_step (min2 (dist x0 x1)) (dist x0 x1 2) m _ _ h2 (hr 2)
  rw [mask_at (min3 (dist x0 x1)) (dist x0 x1 3) m _ _ h3 (hr 3), select_decide]
  unfold pick3
  dsimp only
  rw [pick_step _ _ _ _ m k _ _ h2 (hr 2), pick_step _ _ _ _ m k _ _ (hr 0) (hr 1),
    pick_of_four r (fun d => k0_pay38 (dist x0 x1 d) (View.ld x2 (rows d)) (ix2 m k)) c hlt,
    hit_at (dist x0 x1 c) (View.ld x2 (rows c)) (fun m j => dsq (b.p (point c j)) (b.q m)) (dist_chunk h c) m k j fun i hi => ?_,
    ld_rows, ← e, h.t]
  rw [← e]
  exact b.near_τ m _ fun h' => hi (point_inj (h'.trans e)).2

/-- The block a grid step writes: row `r` is the batch's sum `r`, in every lane. -/
theorem out_at (r : Fin 4) (l : Fin 128) : out x0 x1 x2 x3 x4 x5 (ix3 0 r l) = ((b.sums r : ℝ) : EReal) := by
  have row : ∀ (s : Fin 4), r.val = s.val → ((b.sums r : ℝ) : EReal) = ((b.sums s : ℝ) : EReal) := fun s e => by rw [Fin.ext e]
  unfold out
  canon_tiles
  all_goals change r.val = _ at h1
  · rw [row 3 (by show r.val = _; omega)]
    refine rowNormals_at _ _ _ _ x b.u (fun n k => ?_) (fun m => b.t (b.τ m)) (fun m k => b.unit_t _ k) (rowPick_eq h)
    rw [← h.u n k]
    refine congrArg x5 (funext fun a => Fin.ext ?_)
    fin_cases a <;> simp [nrmW, Rect.unit]
  · rw [row 2 (by show r.val = _; omega)]
    exact rowSum_at _ (fun m => dsq (b.p (b.τ m)) (b.q m)) (rowMin_eq h) x
  · rw [row 1 (by show r.val = _; omega)]
    exact (lane1_at _ x).trans (colNormals_eq h)
  · rw [row 0 (by show r.val = _; omega)]
    exact (lane0_at _ x).trans (colSum_eq h)

end

end Cert.KernelIdeal.Block

end
-- ==== Proof.Clouds.lean ====
/-
  Two batches of point clouds with normals, over the reals: what the precondition gives, what the kernel sums, and the loss.
-/
module

public import proofs.«01_k».proof.Proof.Block

@[expose] public section

noncomputable section

namespace Cert.Math

open Idealize.ShloMosaic

/-- The coordinates and the normals of two batches of four clouds, with the nearest point of the other cloud for every point. Every other
    point is strictly farther, and no normal is shorter than `eps` but for the zero ones. -/
structure Clouds where
  p : Fin 4 → Fin 4096 → Fin 3 → ℝ
  n : Fin 4 → Fin 4096 → Fin 3 → ℝ
  q : Fin 4 → Fin 4096 → Fin 3 → ℝ
  o : Fin 4 → Fin 4096 → Fin 3 → ℝ
  σ : Fin 4 → Fin 4096 → Fin 4096
  τ : Fin 4 → Fin 4096 → Fin 4096
  near_σ : ∀ b i j, j ≠ σ b i → dsq (p b i) (q b (σ b i)) < dsq (p b i) (q b j)
  near_τ : ∀ b j i, i ≠ τ b j → dsq (p b (τ b j)) (q b j) < dsq (p b i) (q b j)
  len_n : ∀ b i, √(∑ k, n b i k * n b i k) = 0 ∨ eps ≤ √(∑ k, n b i k * n b i k)
  len_o : ∀ b i, √(∑ k, o b i k * o b i k) = 0 ∨ eps ≤ √(∑ k, o b i k * o b i k)

/-- One batch element: its points and its unit normals. -/
def Clouds.batch (C : Clouds) (b : Fin 4) : Batch where
  p := C.p b
  q := C.q b
  t i := unit (C.n b i)
  u i := unit (C.o b i)
  σ := C.σ b
  τ := C.τ b
  near_σ := C.near_σ b
  near_τ := C.near_τ b
  unit_t i k := unit_unit _ (C.len_n b i) k
  unit_u i k := unit_unit _ (C.len_o b i) k

/-- The loss: the four sums over all batch elements, each a mean over 4 · 4096 points. -/
def Clouds.loss (C : Clouds) : ℝ := (∑ b, ∑ r, (C.batch b).sums r) / 16384

/-- The arrays `X` and `Y` hold the clouds `C`: three columns of coordinates, then three of a normal with the same unit normal. -/
structure Clouds.Fill (C : Clouds) (X Y : FVec Ideal ⟨3, ![4, 4096, 6]⟩ .f32) : Prop where
  p : ∀ b i (k : Fin 3), X (ix3 b i ⟨k.val, by omega⟩) = ((C.p b i k : ℝ) : EReal)
  n : ∀ b i (k : Fin 3), unitRow (fun k => X (ix3 b i ⟨3 + k.val, by omega⟩)) k = ((unit (C.n b i) k : ℝ) : EReal)
  q : ∀ b i (k : Fin 3), Y (ix3 b i ⟨k.val, by omega⟩) = ((C.q b i k : ℝ) : EReal)
  o : ∀ b i (k : Fin 3), unitRow (fun k => Y (ix3 b i ⟨3 + k.val, by omega⟩)) k = ((unit (C.o b i) k : ℝ) : EReal)

end Cert.Math

end
-- ==== Proof.Nearest.lean ====
/-
  What the precondition gives: where all points are real, two batches of clouds, and for every point the index of its strictly nearest
  point in the other cloud, the index `argmin` returns; otherwise a pair of points whose squared distance is minus infinity.
-/
module

public import proofs.«01_k».proof.Proof.Clouds
public import proofs.«01_k».proof.Proof.Gen.Pre_nearest_is_unique
public import Idealize.ShloMosaic.Lib.Pipeline.ValueKit
public import Idealize.ShloMosaic.Lib.ReduceAll
public import Idealize.ShloMosaic.Lib.Affine

@[expose] public section

set_option maxRecDepth 65536

noncomputable section

namespace Cert.Nearest

open Cert.Pre_nearest_is_unique Cert.Pre_nearest_is_unique.Facts Cert.Math
open Idealize.ShloMosaic

/-! ## The arrays -/

/-- The points of a cloud, -/
def pts (X : FVec Ideal S4x4096x6 .f32) : FVec Ideal S4x4096x3 .f32 :=
  extractStridedSlice S4x4096x3 ![0, 0, 0] X slices_S4x4096x6_S4x4096x3_0_0_0

/-- its normals, -/
def nrm (X : FVec Ideal S4x4096x6 .f32) : FVec Ideal S4x4096x3 .f32 :=
  extractStridedSlice S4x4096x3 ![0, 0, 3] X slices_S4x4096x6_S4x4096x3_0_0_3

/-- and the sums of squares of rows of three. -/
def sq (x : FVec Ideal S4x4096x3 .f32) : FVec Ideal S4x4096 .f32 :=
  Host.reduceAdd (mulf x x) (constant S_ .f32 0x00000000#32) reducesTo_S4x4096x3_S4x4096_d2 h_S_

/-- A value per point of the first cloud, over all pairs, -/
def alongN {α : Type} (x : S4x4096.Idx → α) : S4x4096x4096.Idx → α :=
  broadcastInDim S4x4096x4096 ![0, 1, 2] bcast_S4x4096x1_S4x4096x4096_0_1_2
    (broadcastInDim S4x4096x1 ![0, 1] bcast_S4x4096_S4x4096x1_0_1 x)

/-- and one per point of the second. -/
def alongM {α : Type} (x : S4x4096.Idx → α) : S4x4096x4096.Idx → α :=
  broadcastInDim S4x4096x4096 ![0, 1, 2] bcast_S4x1x4096_S4x4096x4096_0_1_2
    (broadcastInDim S4x1x4096 ![0, 2] bcast_S4x4096_S4x1x4096_0_2 x)

/-- The squared distances of all pairs, -/
def pairs (x y : FVec Ideal S4x4096x3 .f32) : FVec Ideal S4x4096x4096 .f32 :=
  subf (addf (alongN (sq x)) (alongM (sq y)))
    (mulf (broadcastInDim S4x4096x4096 ![] bcast_S_S4x4096x4096 (constant S_ .f32 0x40000000#32))
      (Host.dotGeneral dot_S4x4096x3_S4x4096x3_S4x4096x4096_2_2_1_1_0_0 none x y))

/-- the least over the second cloud, -/
def minN (d : FVec Ideal S4x4096x4096 .f32) : FVec Ideal S4x4096 .f32 :=
  Host.reduce FloatOps.minimumf d (constant S_ .f32 0x7F800000#32) reducesTo_S4x4096x4096_S4x4096_d2 h_S_

/-- and the least over the first. -/
def minM (d : FVec Ideal S4x4096x4096 .f32) : FVec Ideal S4x4096 .f32 :=
  Host.reduce FloatOps.minimumf d (constant S_ .f32 0x7F800000#32) reducesTo_S4x4096x4096_S4x4096_d1 h_S_

/-- Every row is zero or not too short, -/
def Long (x : FVec Ideal S4x4096x3 .f32) : Prop :=
  ∀ i, ori (cmpf .oeq (Host.sqrt (sq x)) (broadcastInDim S4x4096 ![] bcast_S_S4x4096 (constant S_ .f32 0x00000000#32)))
    (cmpf .oge (Host.sqrt (sq x)) (broadcastInDim S4x4096 ![] bcast_S_S4x4096 (constant S_ .f32 0x2B8CBCCC#32))) i = 1#1

/-- and the minimum is reached at the index returned only: for the points of the first cloud -/
def OnlyN (d : FVec Ideal S4x4096x4096 .f32) : Prop :=
  ∀ i, ori (cmpf .ogt d (alongN (minN d))) (cmpi .eq (iotaInDim S4x4096x4096 32 2) (alongN (fn_argmin d))) i = 1#1

/-- and for those of the second. -/
def OnlyM (d : FVec Ideal S4x4096x4096 .f32) : Prop :=
  ∀ i, ori (cmpf .ogt d (alongM (minM d))) (cmpi .eq (iotaInDim S4x4096x4096 32 1) (alongM (fn_argmin_0 d))) i = 1#1

/-- The precondition says all of these. -/
theorem parts (X Y : FVec Ideal S4x4096x6 .f32) (h : fn X Y = fun _ => 1#1) :
    (Long (nrm X) ∧ Long (nrm Y)) ∧ OnlyN (pairs (pts X) (pts Y)) ∧ OnlyM (pairs (pts X) (pts Y)) := by
  have h0 := congrFun h ix0
  change IntOp.andi (IntOp.andi (IntOp.andi _ _) _) _ = 1#1 at h0
  simp only [IntOp.andi_eq_one] at h0
  obtain ⟨⟨⟨c, d⟩, e⟩, f⟩ := h0
  exact ⟨⟨Host.reduce_andi_all _ _ _ _ _ c, Host.reduce_andi_all _ _ _ _ _ d⟩, Host.reduce_andi_all _ _ _ _ _ e,
    Host.reduce_andi_all _ _ _ _ _ f⟩

/-! ## Their entries -/

/-- A decided proposition whose bit is set holds. -/
theorem bit {P : Prop} [Decidable P] : BitVec.ofBool (decide P) = 1#1 ↔ P := by
  by_cases h : P <;> simp [h]

theorem pts_at (X : FVec Ideal S4x4096x6 .f32) (b : Fin 4) (i : Fin 4096) (k : Fin 3) :
    pts X (ix3 b i k) = X (ix3 b i ⟨k.val, by omega⟩) := by
  pointwise [pts]

theorem nrm_at (X : FVec Ideal S4x4096x6 .f32) (b : Fin 4) (i : Fin 4096) (k : Fin 3) :
    nrm X (ix3 b i k) = X (ix3 b i ⟨3 + k.val, by omega⟩) := by
  pointwise [nrm]

/-- The squared distance of a pair of points, -/
theorem pairs_at (x y : FVec Ideal S4x4096x3 .f32) (b : Fin 4) (n m : Fin 4096) : pairs x y (ix3 b n m) =
    (∑ k, x (ix3 b n k) * x (ix3 b n k)) + (∑ k, y (ix3 b m k) * y (ix3 b m k)) -
      ((2 : ℝ) : EReal) * ∑ k, x (ix3 b n k) * y (ix3 b m k) := by
  pointwise [pairs, alongN, alongM, sq]
  rw [show Ideal.ofBits FTy.f32 1073741824#32 = ((2 : ℝ) : EReal) from lit_two]

/-- and of a pair of real points. -/
theorem pairs_real (x y : FVec Ideal S4x4096x3 .f32) (b : Fin 4) (n m : Fin 4096) (p q : Fin 3 → ℝ)
    (hp : ∀ k, x (ix3 b n k) = ((p k : ℝ) : EReal)) (hq : ∀ k, y (ix3 b m k) = ((q k : ℝ) : EReal)) :
    pairs x y (ix3 b n m) = ((dsq p q : ℝ) : EReal) := by
  rw [pairs_at]
  simp only [hp, hq, ← EReal.coe_mul, ← coe_sum]
  rw [← EReal.coe_add, ← EReal.coe_sub]
  rfl

/-- A row that passes the test for length. -/
theorem Long.row {x : FVec Ideal S4x4096x3 .f32} (h : Long x) (b : Fin 4) (i : Fin 4096) :
    Ideal.sqrt (∑ k, x (ix3 b i k) * x (ix3 b i k)) = 0 ∨ ((eps : ℝ) : EReal) ≤ Ideal.sqrt (∑ k, x (ix3 b i k) * x (ix3 b i k)) := by
  have e : IntOp.ori (BitVec.ofBool (decide (Ideal.sqrt (∑ k, x (ix3 b i k) * x (ix3 b i k)) = 0)))
      (BitVec.ofBool (decide (Ideal.ofBits FTy.f32 730643660#32 ≤ Ideal.sqrt (∑ k, x (ix3 b i k) * x (ix3 b i k))))) = 1#1 := by
    rw [← h (ix2 b i)]
    pointwise [sq]
  rwa [show Ideal.ofBits FTy.f32 730643660#32 = ((eps : ℝ) : EReal) from lit_eps, IntOp.ori_eq_one, bit, bit] at e

/-- Of a family of reals whose minimum is reached at the index `a` only, `a` is the index of the least, and every other is larger. -/
theorem least (d : Fin 4096 → ℝ) (a : BitVec 32)
    (h : ∀ j : Fin 4096, (Finset.univ : Finset (Fin 4096)).fold min (⊤ : EReal) (fun i => (d i : EReal)) < (d j : EReal) ∨
      BitVec.ofNat 32 j.val = a) : ∃ s : Fin 4096, a = BitVec.ofNat 32 s.val ∧ ∀ j, j ≠ s → d s < d j := by
  obtain ⟨s, hs⟩ := Finite.exists_min d
  rw [fold_min_eq d s hs] at h
  have ha : BitVec.ofNat 32 s.val = a := (h s).resolve_left (lt_irrefl _)
  refine ⟨s, ha.symm, fun j hj => ?_⟩
  rcases h j with e | e
  · exact EReal.coe_lt_coe_iff.1 e
  · refine absurd (Fin.ext ?_) hj
    have := congrArg BitVec.toNat (e.trans ha.symm)
    rw [BitVec.toNat_ofNat, BitVec.toNat_ofNat] at this
    omega

/-- Of a family whose minimum is reached at the index `a` only, and which takes no value but plus and minus infinity, one is minus
    infinity. -/
theorem exists_bot (d : Fin 4096 → EReal) (a : BitVec 32)
    (h : ∀ j : Fin 4096, (Finset.univ : Finset (Fin 4096)).fold min (⊤ : EReal) d < d j ∨ BitVec.ofNat 32 j.val = a)
    (hd : ∀ j, d j = ⊤ ∨ d j = ⊥) : ∃ j, d j = ⊥ := by
  by_contra hn
  have ht : d = fun _ => ⊤ := funext fun j => (hd j).resolve_right fun e => hn ⟨j, e⟩
  have hf : (Finset.univ : Finset (Fin 4096)).fold min (⊤ : EReal) d = ⊤ :=
    top_le_iff.1 ((Finset.le_fold_min _).2 ⟨le_rfl, fun i _ => by rw [ht]⟩)
  have h0 := (h 0).resolve_left (by rw [hf]; exact not_top_lt)
  have h1 := (h 1).resolve_left (by rw [hf]; exact not_top_lt)
  exact absurd (h0.trans h1.symm) (by decide)

/-- The least over the second cloud, -/
theorem minN_at (d : FVec Ideal S4x4096x4096 .f32) (b : Fin 4) (n : Fin 4096) :
    minN d (ix2 b n) = (Finset.univ : Finset (Fin 4096)).fold min (⊤ : EReal) (fun m => d (ix3 b n m)) := by
  pointwise [minN]
  rw [show Ideal.ofBits FTy.f32 2139095040#32 = ⊤ from lit_top]

/-- and over the first. -/
theorem minM_at (d : FVec Ideal S4x4096x4096 .f32) (b : Fin 4) (m : Fin 4096) :
    minM d (ix2 b m) = (Finset.univ : Finset (Fin 4096)).fold min (⊤ : EReal) (fun n => d (ix3 b n m)) := by
  pointwise [minM]
  rw [show Ideal.ofBits FTy.f32 2139095040#32 = ⊤ from lit_top]

/-- A pair that passes the test for the only minimum: for a point of the first cloud -/
theorem testN (d : FVec Ideal S4x4096x4096 .f32) (mn : FVec Ideal S4x4096 .f32) (am : IVec S4x4096 32) (b : Fin 4) (n m : Fin 4096)
    (h : ori (cmpf .ogt d (alongN mn)) (cmpi .eq (iotaInDim S4x4096x4096 32 2) (alongN am)) (ix3 b n m) = 1#1) :
    mn (ix2 b n) < d (ix3 b n m) ∨ BitVec.ofNat 32 m.val = am (ix2 b n) := by
  have e : IntOp.ori (BitVec.ofBool (decide (mn (ix2 b n) < d (ix3 b n m)))) (IntOp.cmpi .eq (BitVec.ofNat 32 m.val) (am (ix2 b n))) =
      1#1 := by
    refine Eq.trans ?_ h
    pointwise [alongN]
  rwa [IntOp.ori_eq_one, bit, IntOp.cmpi_eq] at e

/-- and for one of the second. -/
theorem testM (d : FVec Ideal S4x4096x4096 .f32) (mn : FVec Ideal S4x4096 .f32) (am : IVec S4x4096 32) (b : Fin 4) (n m : Fin 4096)
    (h : ori (cmpf .ogt d (alongM mn)) (cmpi .eq (iotaInDim S4x4096x4096 32 1) (alongM am)) (ix3 b n m) = 1#1) :
    mn (ix2 b m) < d (ix3 b n m) ∨ BitVec.ofNat 32 n.val = am (ix2 b m) := by
  have e : IntOp.ori (BitVec.ofBool (decide (mn (ix2 b m) < d (ix3 b n m)))) (IntOp.cmpi .eq (BitVec.ofNat 32 n.val) (am (ix2 b m))) =
      1#1 := by
    refine Eq.trans ?_ h
    pointwise [alongM]
  rwa [IntOp.ori_eq_one, bit, IntOp.cmpi_eq] at e

/-- For a point of the first cloud, the minimum of the distances is reached at the index returned only, -/
theorem OnlyN.row {d : FVec Ideal S4x4096x4096 .f32} (h : OnlyN d) (b : Fin 4) (n m : Fin 4096) :
    (Finset.univ : Finset (Fin 4096)).fold min (⊤ : EReal) (fun m => d (ix3 b n m)) < d (ix3 b n m) ∨
      BitVec.ofNat 32 m.val = fn_argmin d (ix2 b n) := by
  rw [← minN_at d b n]
  exact testN d (minN d) (fn_argmin d) b n m (h (ix3 b n m))

/-- and so for a point of the second. -/
theorem OnlyM.row {d : FVec Ideal S4x4096x4096 .f32} (h : OnlyM d) (b : Fin 4) (m n : Fin 4096) :
    (Finset.univ : Finset (Fin 4096)).fold min (⊤ : EReal) (fun n => d (ix3 b n m)) < d (ix3 b n m) ∨
      BitVec.ofNat 32 n.val = fn_argmin_0 d (ix2 b m) := by
  rw [← minM_at d b m]
  exact testM d (minM d) (fn_argmin_0 d) b n m (h (ix3 b n m))

/-- The arguments hold two batches of clouds, and the indices `argmin` returns are those of the nearest points. -/
def Real (X Y : FVec Ideal S4x4096x6 .f32) (C : Clouds) : Prop := C.Fill X Y ∧
  (∀ b n, fn_argmin (pairs (pts X) (pts Y)) (ix2 b n) = BitVec.ofNat 32 (C.σ b n).val) ∧
  (∀ b m, fn_argmin_0 (pairs (pts X) (pts Y)) (ix2 b m) = BitVec.ofNat 32 (C.τ b m).val)

/-- The squared distance of two points is minus infinity, and a product of their coordinates plus infinity. -/
def Infinite (X Y : FVec Ideal S4x4096x6 .f32) (b : Fin 4) (n m : Fin 4096) : Prop :=
  pairs (pts X) (pts Y) (ix3 b n m) = ⊥ ∧
    ∃ k : Fin 3, X (ix3 b n ⟨k.val, by omega⟩) * Y (ix3 b m ⟨k.val, by omega⟩) = ⊤

/-- The precondition leaves these two cases. -/
theorem cases (X Y : FVec Ideal S4x4096x6 .f32) (h : fn X Y = fun _ => 1#1) :
    (∃ C, Real X Y C) ∨ ∃ b n m, Infinite X Y b n m := by
  obtain ⟨⟨lx, ly⟩, on, om⟩ := parts X Y h
  by_cases hi : ∃ b i k, Inf (pts X (ix3 b i k)) ∨ Inf (pts Y (ix3 b i k))
  · obtain ⟨b, i, k, hi⟩ := hi
    refine Or.inr ⟨b, ?_⟩
    have fin : ∀ n m, (Inf (pts X (ix3 b n k)) ∨ Inf (pts Y (ix3 b m k))) → pairs (pts X) (pts Y) (ix3 b n m) = ⊤ ∨
        pairs (pts X) (pts Y) (ix3 b n m) = ⊥ ∧ ∃ k, pts X (ix3 b n k) * pts Y (ix3 b m k) = ⊤ := fun n m e => by
      rw [pairs_at]
      exact pair_inf (fun k => pts X (ix3 b n k)) (fun k => pts Y (ix3 b m k)) k e
    have done : ∀ n m, (Inf (pts X (ix3 b n k)) ∨ Inf (pts Y (ix3 b m k))) → pairs (pts X) (pts Y) (ix3 b n m) = ⊥ →
        Infinite X Y b n m := fun n m e e' => by
      obtain ⟨k, hk⟩ := ((fin n m e).resolve_left (by rw [e']; exact bot_ne_top)).2
      exact ⟨e', k, by rw [← pts_at X, ← pts_at Y, hk]⟩
    rcases hi with e | e
    · obtain ⟨m, hm⟩ := exists_bot _ _ (fun m => on.row b i m) fun m => (fin i m (Or.inl e)).imp_right And.left
      exact ⟨i, m, done i m (Or.inl e) hm⟩
    · obtain ⟨n, hn⟩ := exists_bot _ _ (fun n => om.row b i n) fun n => (fin n i (Or.inr e)).imp_right And.left
      exact ⟨n, i, done n i (Or.inr e) hn⟩
  · have px := fun b i k => real_of_not_inf fun e => hi ⟨b, i, k, Or.inl e⟩
    have py := fun b i k => real_of_not_inf fun e => hi ⟨b, i, k, Or.inr e⟩
    have hd := fun b n m => pairs_real (pts X) (pts Y) b n m _ _ (px b n) (py b m)
    choose σ aσ nσ using fun b n => least _ _ fun m => by simpa only [hd] using on.row b n m
    choose τ aτ nτ using fun b m => least _ _ fun n => by simpa only [hd] using om.row b m n
    choose n ln un using fun b i => unitRow_real _ (lx.row b i)
    choose o lo uo using fun b i => unitRow_real _ (ly.row b i)
    refine Or.inl ⟨⟨fun b i k => (pts X (ix3 b i k)).toReal, n, fun b i k => (pts Y (ix3 b i k)).toReal, o, σ, τ, nσ, nτ, ln, lo⟩, ⟨fun b i k => ?_, fun b i k => ?_, fun b i k => ?_, fun b i k => ?_⟩, aσ, aτ⟩
    · exact (pts_at X b i k).symm.trans (px b i k)
    · rw [← un b i k]; simp only [nrm_at]
    · exact (pts_at Y b i k).symm.trans (py b i k)
    · rw [← uo b i k]; simp only [nrm_at]

end Cert.Nearest

end
-- ==== Proof.Arrays.lean ====
/-
  The kernel's result over the reals: what the host lines before the call prepare, what every grid step's blocks hold, the array the
  call leaves, and the host lines after it.
-/
module

public import proofs.«01_k».proof.Proof.Nearest
public import Idealize.ShloMosaic.Lib.Claim
public import Idealize.ShloMosaic.Lib.Pipeline.ValueKit

@[expose] public section

set_option maxRecDepth 65536

noncomputable section

namespace Cert.KernelIdeal.Arrays

open Cert.KernelIdeal Cert.KernelIdeal.Gen Cert.KernelIdeal.Body Cert.KernelIdeal.Block Cert.Math
open Idealize.ShloMosaic Idealize.ShloMosaic.TcCoe
open Idealize.ShloMosaic.Pipeline (Dat)
open Cert.Nearest (nrm pts_at nrm_at)

/-- The sums of squares of rows of three, -/
def sqs (x : FVec Ideal S4x4096x3 .f32) : FVec Ideal S4x4096x1 .f32 :=
  broadcastInDim S4x4096x1 ![0, 1] bcast_S4x4096_S4x4096x1_0_1
    (Host.reduceAdd (mulf x x) (constant S_ .f32 0x00000000#32) reducesTo_S4x4096x3_S4x4096_d2 h_S_)

/-- such rows divided by their length, -/
def units (x : FVec Ideal S4x4096x3 .f32) : FVec Ideal S4x4096x3 .f32 :=
  Host.divf x (broadcastInDim S4x4096x3 ![0, 1, 2] bcast_S4x4096x1_S4x4096x3_0_1_2
    (maximumf (Host.sqrt (sqs x)) (broadcastInDim S4x4096x1 ![] bcast_S_S4x4096x1 (constant S_ .f32 0x2B8CBCCC#32))))

/-- and the points with their sums of squares, a one and zeros, by columns. -/
def cols8 (x : FVec Ideal S4x4096x3 .f32) : FVec Ideal S4x8x4096 .f32 :=
  transpose S4x8x4096 [0, 2, 1] (concatenate S4x4096x8 2 [⟨S4x4096x3, x⟩, ⟨S4x4096x1, sqs x⟩,
    ⟨S4x4096x1, broadcastInDim S4x4096x1 ![] bcast_S_S4x4096x1 (constant S_ .f32 0x3F800000#32)⟩,
    ⟨S4x4096x3, broadcastInDim S4x4096x3 ![] bcast_S_S4x4096x3 (constant S_ .f32 0x00000000#32)⟩]
    concatenates_S4x4096x3_S4x4096x1_S4x4096x1_S4x4096x3_S4x4096x8_d2) transposes_S4x4096x8_S4x8x4096_0_2_1

/-- A row divided by its length. -/
theorem units_at (x : FVec Ideal S4x4096x3 .f32) (b : Fin 4) (i : Fin 4096) (k : Fin 3) :
    units x (ix3 b i k) = unitRow (fun k => x (ix3 b i k)) k := by
  pointwise [units, sqs]
  rw [show Ideal.ofBits FTy.f32 730643660#32 = ((eps : ℝ) : EReal) from lit_eps]
  rfl

/-- Rows stored by columns. -/
theorem flip_at (x : FVec Ideal S4x4096x3 .f32) (b : Fin 4) (k : Fin 3) (i : Fin 4096) :
    transpose S4x3x4096 [0, 2, 1] x transposes_S4x4096x3_S4x3x4096_0_2_1 (ix3 b k i) = x (ix3 b i k) := by
  pointwise

/-- The eight rows of a point's column: its coordinates, -/
theorem cols8_pt (x : FVec Ideal S4x4096x3 .f32) (b : Fin 4) (i : Fin 4096) (k : Fin 3) :
    cols8 x (ix3 b ⟨k.val, by omega⟩ i) = x (ix3 b i k) := by
  pointwise [cols8]

/-- its sum of squares -/
theorem cols8_sq (x : FVec Ideal S4x4096x3 .f32) (b : Fin 4) (i : Fin 4096) (v : Fin 3 → ℝ)
    (h : ∀ k, x (ix3 b i k) = ((v k : ℝ) : EReal)) : cols8 x (ix3 b 3 i) = ((∑ k, v k * v k : ℝ) : EReal) := by
  pointwise [cols8, sqs]
  rw [coe_sum]
  simp only [h, EReal.coe_mul]

/-- and a one. -/
theorem cols8_one (x : FVec Ideal S4x4096x3 .f32) (b : Fin 4) (i : Fin 4096) : cols8 x (ix3 b 4 i) = ((1 : ℝ) : EReal) := by
  pointwise [cols8, sqs]
  rfl

section
variable (m : (ℓ : Loc nD τ sig) → Buf (Elt Ideal) ℓ) (c : Dev nD)

/-- The first argument, as the call's device holds it, -/
abbrev X : FVec Ideal S4x4096x6 .f32 := m ((c, main_arg0) : Loc nD τ sig)

/-- and the second. -/
abbrev Y : FVec Ideal S4x4096x6 .f32 := m ((c, main_arg1) : Loc nD τ sig)

/-- What the arrays of the call's windows hold when it starts. -/
theorem read_y : (V m c main_arg1 : FVec Ideal S4x4096x6 .f32) = Y m c := by
  show (StableHlo.after hostOps0 (fun b => m (c, b)) (Proc.devRef .tc main_arg1) : FVec Ideal S4x4096x6 .f32) = _
  after_results

theorem read_cols : (V m c main_call0_v25 : FVec Ideal S4x8x4096 .f32) = cols8 (Cert.Nearest.pts (X m c)) := by
  show (StableHlo.after hostOps0 (fun b => m (c, b)) (Proc.devRef .tc main_call0_v25) : FVec Ideal S4x8x4096 .f32) = _
  after_results
  rfl

theorem read_t : (V m c main_call0_v27 : FVec Ideal S4x4096x3 .bf16) = truncf .bf16 (units (nrm (X m c))) bitsLt_bf16_f32 := by
  show (StableHlo.after hostOps0 (fun b => m (c, b)) (Proc.devRef .tc main_call0_v27) : FVec Ideal S4x4096x3 .bf16) = _
  after_results
  rfl

theorem read_t' : (V m c main_call0_v26 : FVec Ideal S4x3x4096 .f32) =
    transpose S4x3x4096 [0, 2, 1] (units (nrm (X m c))) transposes_S4x4096x3_S4x3x4096_0_2_1 := by
  show (StableHlo.after hostOps0 (fun b => m (c, b)) (Proc.devRef .tc main_call0_v26) : FVec Ideal S4x3x4096 .f32) = _
  after_results
  rfl

theorem read_u' : (V m c main_call0_v29 : FVec Ideal S4x3x4096 .bf16) =
    truncf .bf16 (transpose S4x3x4096 [0, 2, 1] (units (nrm (Y m c))) transposes_S4x4096x3_S4x3x4096_0_2_1) bitsLt_bf16_f32 := by
  show (StableHlo.after hostOps0 (fun b => m (c, b)) (Proc.devRef .tc main_call0_v29) : FVec Ideal S4x3x4096 .bf16) = _
  after_results
  rfl

theorem read_u : (V m c main_call0_v18 : FVec Ideal S4x4096x3 .f32) = units (nrm (Y m c)) := by
  show (StableHlo.after hostOps0 (fun b => m (c, b)) (Proc.devRef .tc main_call0_v18) : FVec Ideal S4x4096x3 .f32) = _
  after_results
  rfl

/-- Every window's block at step `t` is batch element `t` of its array. -/
theorem idx : ∀ t : Fin cfg0.N, win0_0.index t = ![t.val, 0, 0] ∧ win0_1.index t = ![t.val, 0, 0] ∧ win0_2.index t = ![t.val, 0, 0] ∧
    win0_3.index t = ![t.val, 0, 0] ∧ win0_4.index t = ![t.val, 0, 0] ∧ win0_5.index t = ![t.val, 0, 0] ∧
    win0_6.index t = ![t.val, 0, 0] :=
  (by decide +kernel : ∀ t : Fin grid0.N, _)

/-- A step's block of the second argument is its batch element's, -/
theorem pts_y (t : Fin cfg0.N) (b : Fin 4) (hb : b.val = t.val) (n : Fin 4096) (r : Fin 6) :
    (blk m c 0 t : Vec Ideal S1x4096x6 .f32) (ix3 0 n r) = Y m c (ix3 b n r) := by
  refine Eq.trans ?_ (congrFun (read_y m c) (ix3 b n r))
  blk_ext [blk, idx t]

/-- and so is that of the first argument's coordinates by columns. -/
theorem cols_x (t : Fin cfg0.N) (b : Fin 4) (hb : b.val = t.val) (r : Fin 8) (n : Fin 4096) :
    (blk m c 1 t : Vec Ideal S1x8x4096 .f32) (ix3 0 r n) = cols8 (Cert.Nearest.pts (X m c)) (ix3 b r n) := by
  refine Eq.trans ?_ (congrFun (read_cols m c) (ix3 b r n))
  blk_ext [blk, idx t]

set_option maxHeartbeats 2000000 in
/-- A step's blocks hold its batch element of the clouds the arguments hold. -/
theorem holds (C : Clouds) (hC : C.Fill (X m c) (Y m c)) (t : Fin cfg0.N) (b : Fin 4) (hb : b.val = t.val) :
    Holds (C.batch b) (blk m c 0 t) (blk m c 1 t) (blk m c 2 t) (blk m c 3 t) (blk m c 4 t) (blk m c 5 t) := by
  have hx : ∀ b i k, units (nrm (X m c)) (ix3 b i k) = ((unit (C.n b i) k : ℝ) : EReal) := fun b i k => by
    rw [units_at, ← hC.n b i k]; simp only [nrm_at]
  have hy : ∀ b i k, units (nrm (Y m c)) (ix3 b i k) = ((unit (C.o b i) k : ℝ) : EReal) := fun b i k => by
    rw [units_at, ← hC.o b i k]; simp only [nrm_at]
  have hp : ∀ b i k, Cert.Nearest.pts (X m c) (ix3 b i k) = ((C.p b i k : ℝ) : EReal) := fun b i k => (pts_at _ b i k).trans (hC.p b i k)
  have e2 : ∀ n r, (blk m c 2 t : Vec Ideal S1x4096x3 .bf16) (ix3 0 n r) = (V m c main_call0_v27 : FVec Ideal S4x4096x3 .bf16) (ix3 b n r) :=
    fun n r => by blk_ext [blk, idx t]
  have e3 : ∀ r n, (blk m c 3 t : Vec Ideal S1x3x4096 .f32) (ix3 0 r n) = (V m c main_call0_v26 : FVec Ideal S4x3x4096 .f32) (ix3 b r n) :=
    fun r n => by blk_ext [blk, idx t]
  have e4 : ∀ r n, (blk m c 4 t : Vec Ideal S1x3x4096 .bf16) (ix3 0 r n) = (V m c main_call0_v29 : FVec Ideal S4x3x4096 .bf16) (ix3 b r n) :=
    fun r n => by blk_ext [blk, idx t]
  have e5 : ∀ n r, (blk m c 5 t : Vec Ideal S1x4096x3 .f32) (ix3 0 n r) = (V m c main_call0_v18 : FVec Ideal S4x4096x3 .f32) (ix3 b n r) :=
    fun n r => by blk_ext [blk, idx t]
  refine ⟨fun i k => ?_, fun i k => ?_, fun i => ?_, fun i => ?_, fun i k => ?_, fun i k => ?_, fun i k => ?_, fun i k => ?_⟩
  · exact (pts_y m c t b hb i _).trans (hC.q b i k)
  · rw [cols_x m c t b hb, cols8_pt]; exact hp b i k
  · rw [cols_x m c t b hb, cols8_sq _ b i _ (hp b i)]; rfl
  · rw [cols_x m c t b hb, cols8_one]
  · rw [e2, read_t]; exact hx b i k
  · rw [e3, read_t', flip_at]; exact hx b i k
  · rw [e4, read_u']; exact (flip_at _ b k i).trans (hy b i k)
  · rw [e5, read_u]; exact hy b i k

/-- What the step of batch element `b` writes. -/
def written (b : Fin 4) : FVec Ideal S1x4x128 .f32 :=
  out (blk m c 0 (b : Fin cfg0.N)) (blk m c 1 (b : Fin cfg0.N)) (blk m c 2 (b : Fin cfg0.N)) (blk m c 3 (b : Fin cfg0.N))
    (blk m c 4 (b : Fin cfg0.N)) (blk m c 5 (b : Fin cfg0.N))

set_option maxHeartbeats 2000000 in
/-- The array the call leaves holds what the steps write. -/
theorem out_array : ((dats m 0 c).arrAt 6 cfg0.N : FVec Ideal S4x4x128 .f32) = fun i => written m c (i 0) (ix3 0 (i 1) (i 2)) := by
  refine (dats m 0 c).arrAt_eq_of_covers 6 _ (by decide +kernel) fun t _ y => ?_
  blk_simp
  have hy : y = ix3 0 (y 1) (y 2) := by
    funext a; apply Fin.ext; fin_cases a
    · have := (y 0).isLt; simp at this ⊢
    all_goals rfl
  have e : (dats m 0 c).after 6 t y = written m c t y := by
    rfl
  have g : ∀ f : S4x4x128.Idx → EReal, f ((win0_6.blk t).view.emb (ix3 0 (y 1) (y 2))) = f (ix3 (⟨t.val, t.isLt⟩ : Fin 4) (y 1) (y 2)) := fun f => by
    blk_ext [idx t]
  rw [e, hy]
  generalize written m c = w at g ⊢
  exact (g fun i => w (i 0) (ix3 0 (i 1) (i 2))).symm

/-- On clouds these are every batch element's four sums, each on all lanes. -/
theorem sums_array (C : Clouds) (hC : C.Fill (X m c) (Y m c)) :
    ((dats m 0 c).arrAt 6 cfg0.N : FVec Ideal S4x4x128 .f32) = fun i => (((C.batch (i 0)).sums (i 1) : ℝ) : EReal) := by
  rw [out_array]
  exact funext fun i => out_at (holds m c C hC (i 0) (i 0) rfl) (i 1) (i 2)

/-- The host lines after the call: each of the four sums added up over the batch, halves of them added and divided. -/
def tail (A : FVec Ideal S4x4x128 .f32) : FVec Ideal S_ .f32 :=
  let s : FVec Ideal S4 .f32 := Host.reduceAdd (shapeCast S4x4 (extractStridedSlice S4x4x1 ![0, 0, 0] A slices_S4x4x128_S4x4x1_0_0_0)
    shapeCasts_S4x4x1_S4x4) (constant S_ .f32 0x00000000#32) reducesTo_S4x4_S4_d0 h_S_
  addf
    (Host.divf (addf (shapeCast S_ (extractStridedSlice S1 ![0] s slices_S4_S1_0) shapeCasts_S1_S_)
      (shapeCast S_ (extractStridedSlice S1 ![1] s slices_S4_S1_1) shapeCasts_S1_S_)) (constant S_ .f32 0x46800000#32))
    (Host.divf (addf (shapeCast S_ (extractStridedSlice S1 ![2] s slices_S4_S1_2) shapeCasts_S1_S_)
      (shapeCast S_ (extractStridedSlice S1 ![3] s slices_S4_S1_3) shapeCasts_S1_S_)) (constant S_ .f32 0x46800000#32))

/-- The result is read off the array the call leaves. -/
theorem final_eq : (final m c main_v0 : FVec Ideal S_ .f32) = tail ((dats m 0 c).arrAt 6 cfg0.N) := by
  have h : ∀ W : Valuation τ sig (Elt Ideal), (StableHlo.after hostOps1 W (Proc.devRef .tc main_v0) : FVec Ideal S_ .f32) =
      tail (W (Proc.devRef .tc main_call0_v30)) := fun W => by
    after_results
    rfl
  unfold final Pipeline.afterTail₀
  rw [List.flatten_singleton, h]
  exact congrArg tail (Pipeline.withArrays_arr spec0 (by decide) c _ _ 6)

theorem tail_at (s : Fin 4 → Fin 4 → ℝ) (j : S_.Idx) : tail (fun i => ((s (i 0) (i 1) : ℝ) : EReal)) j = (((∑ b, ∑ r, s b r) / 16384 : ℝ) : EReal) := by
  pointwise [tail]
  rw [show Ideal.ofBits FTy.f32 1182793728#32 = ((16384 : ℝ) : EReal) from lit_count]
  simp only [← coe_sum, ← EReal.coe_add]
  rw [coe_div (by norm_num), coe_div (by norm_num), ← EReal.coe_add]
  refine congrArg _ ?_
  simp only [Fin.sum_univ_four]
  ring

/-- A first sum that is minus infinity carries through. -/
theorem tail_bot (A : FVec Ideal S4x4x128 .f32) (b : Fin 4) (h : A (ix3 b 0 0) = ⊥) (j : S_.Idx) : tail A j = ⊥ := by
  pointwise [tail]
  rw [show Ideal.ofBits FTy.f32 1182793728#32 = ((16384 : ℝ) : EReal) from lit_count, sum_bot (fun b => A (ix3 b 0 0)) b h,
    EReal.bot_add, bot_div (by norm_num), EReal.bot_add]

/-- Where a product of coordinates is plus infinity, the kernel's result is minus infinity. -/
theorem final_bot (b : Fin 4) (i n : Fin 4096) (k : Fin 3)
    (h : X m c (ix3 b i ⟨k.val, by omega⟩) * Y m c (ix3 b n ⟨k.val, by omega⟩) = ⊤) :
    (final m c main_v0 : FVec Ideal S_ .f32) = fun _ => (⊥ : EReal) := by
  have h0 := pts_y m c (b : Fin cfg0.N) b rfl n ⟨k.val, by omega⟩
  have h1 := (cols_x m c (b : Fin cfg0.N) b rfl ⟨k.val, by omega⟩ i).trans ((cols8_pt _ b i k).trans (pts_at _ b i k))
  have hb : written m c b (ix3 0 0 0) = ⊥ := out_bot _ _ _ _ _ _ i n k (by rw [h0, h1, mul_comm]; exact h) 0
  rw [final_eq, out_array]
  generalize written m c = w at hb ⊢
  exact funext fun j => tail_bot (fun i => w (i 0) (ix3 0 (i 1) (i 2))) b hb j

/-- On clouds, the kernel's result is the loss. -/
theorem final_loss (C : Clouds) (hC : C.Fill (X m c) (Y m c)) :
    (final m c main_v0 : FVec Ideal S_ .f32) = fun _ => ((C.loss : ℝ) : EReal) := by
  rw [final_eq, sums_array m c C hC]
  funext j
  exact tail_at (fun b r => (C.batch b).sums r) j
end

end Cert.KernelIdeal.Arrays

end
-- ==== Proof.Reference.lean ====
/-
  The reference's result: its lines as one expression, run, and that expression over the reals.
-/
module

public import proofs.«01_k».proof.Proof.Arrays
public import proofs.«01_k».proof.ReferenceIdeal
public import proofs.«01_k».proof.Proof.Gen.ReferenceIdeal
public import Idealize.ShloMosaic.Adequacy
public import Idealize.ShloMosaic.Init
public import Idealize.ShloMosaic.Lib.Claim
public import Idealize.ShloMosaic.Lib.StableHlo.RunRead

@[expose] public section

set_option maxRecDepth 65536

noncomputable section

namespace Cert.ReferenceIdeal.Value

open Cert.ReferenceIdeal Cert.ReferenceIdeal.Facts₀ Cert.Math
open Cert.Nearest (pts nrm sq pairs minN minM)
open Cert.KernelIdeal.Arrays (units)
open Idealize.ShloMosaic Idealize.SL.Sem

/-! ## The expression -/

/-- An index per point, for each of its three coordinates, -/
def rows (i : IVec S4x4096 32) : IVec S4x4096x3 32 :=
  broadcastInDim S4x4096x3 ![0, 1, 2] bcast_S4x4096x1_S4x4096x3_0_1_2 (broadcastInDim S4x4096x1 ![0, 1] bcast_S4x4096_S4x4096x1_0_1 i)

/-- counted from the end where it is negative, -/
def wrap (j : IVec S4x4096x3 32) : IVec S4x4096x3x1 32 :=
  shapeCast S4x4096x3x1 (select (cmpi .slt j (broadcastInDim S4x4096x3 ![] bcast_S_S4x4096x3 (constantI S_ 32 0#32)))
    (addi j (broadcastInDim S4x4096x3 ![] bcast_S_S4x4096x3 (constantI S_ 32 4096#32))) j) shapeCasts_S4x4096x3_S4x4096x3x1

/-- whether it is that of a point, -/
def inside (w : IVec S4x4096x3x1 32) : IVec S4x4096x3 1 :=
  Host.reduce IntOp.andi (andi (cmpi .sge w (broadcastInDim S4x4096x3x1 ![] bcast_S_S4x4096x3x1 (constantI S_ 32 0#32)))
    (cmpi .sle w (broadcastInDim S4x4096x3x1 ![0, 1, 2, 3] bcast_S1x1x1x1_S4x4096x3x1_0_1_2_3
      (broadcastInDim S1x1x1x1 ![3] bcast_S1_S1x1x1x1_3 (constantI S1 32 4095#32))))) (constantI S_ 1 1#1)
    reducesTo_S4x4096x3x1_S4x4096x3_d3 h_S_

/-- and the rows of `x` at these indices. -/
def take (x : FVec Ideal S4x4096x3 .f32) (j : IVec S4x4096x3 32) : FVec Ideal S4x4096x3 .f32 :=
  select (inside (wrap j)) (Host.gather gather_S4x4096x3_S4x4096x3x1_S4x4096x3_n_1_02_02_1_3_111 x (wrap j))
    (broadcastInDim S4x4096x3 ![] bcast_S_S4x4096x3 (constant S_ .f32 0x7FC00000#32))

/-- The mean over all points of a batch. -/
def mean (x : FVec Ideal S4x4096 .f32) : FVec Ideal S_ .f32 :=
  Host.divf (Host.reduceAdd x (constant S_ .f32 0x00000000#32) reducesTo_S4x4096_S_d0_1 h_S_) (constant S_ .f32 0x46800000#32)

/-- The squared difference of the unit normals, one side's taken at the given points. -/
def apart (x y : FVec Ideal S4x4096x3 .f32) (i : IVec S4x4096 32) : FVec Ideal S4x4096 .f32 :=
  sq (subf (units x) (units (take y (rows i))))

/-- The reference's result. -/
def value (X Y : FVec Ideal S4x4096x6 .f32) : FVec Ideal S_ .f32 :=
  let d := pairs (pts X) (pts Y)
  addf (addf (addf (mean (minN d)) (mean (minM d))) (mean (apart (nrm X) (nrm Y) (Pre_nearest_is_unique.fn_argmin d))))
    (mean (apart (nrm Y) (nrm X) (Pre_nearest_is_unique.fn_argmin_0 d)))

/-! ## Its run -/

set_option maxHeartbeats 20000000 in
/-- The reference runs, keeps its arguments and ends with this result. -/
theorem run (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      (r.2.mem ((c.tc : Thread nD τ).loc main_v75) : FVec Ideal S_ .f32) =
          value (m ((c.tc : Thread nD τ).loc main_arg0)) (m ((c.tc : Thread nD τ).loc main_arg1))
        ∧ r.2.mem ((c.tc : Thread nD τ).loc main_arg0) = m ((c.tc : Thread nD τ).loc main_arg0)
        ∧ r.2.mem ((c.tc : Thread nD τ).loc main_arg1) = m ((c.tc : Thread nD τ).loc main_arg1) := by
  have h := (StableHlo.run_hlo defs (main (F := Ideal)) (by hlo_seq) (by decide) (by decide) (by simp)
    (by intro _ h; (repeat (cases h with | head => rfl | tail _ h => ?_)); exact nomatch h) m g)
  refine θ_run_mono h fun r hr c => ⟨(hr c _).trans ?_, (hr c _).trans ?_, (hr c _).trans ?_⟩
  · after_reads_simp
    simp -implicitDefEqProofs only [StableHlo.TRef.toBuf, StableHlo.TRef.ofBuf, cast_cast, cast_eq]
    rfl
  · after_reads_simp
  · after_reads_simp

/-! ## The value -/

/-- The index of a point, for each coordinate. -/
theorem rows_at (i : IVec S4x4096 32) (b : Fin 4) (n : Fin 4096) (k : Fin 3) : rows i (ix3 b n k) = i (ix2 b n) := by
  pointwise [rows]

/-- The index of a point, as a signed number. -/
theorem toInt_index (s : Fin 4096) : (BitVec.ofNat 32 s.val).toInt = s.val := by
  have := s.isLt
  rw [BitVec.toInt_eq_toNat_of_lt (by rw [BitVec.toNat_ofNat]; omega), BitVec.toNat_ofNat]
  omega

/-- The index of a point is not counted from the end. -/
theorem wrap_at (j : IVec S4x4096x3 32) (b : Fin 4) (n : Fin 4096) (k : Fin 3) (s : Fin 4096)
    (h : j (ix3 b n k) = BitVec.ofNat 32 s.val) : wrap j (ix4 b n k 0) = BitVec.ofNat 32 s.val := by
  have hs : IntOp.cmpi .slt (BitVec.ofNat 32 s.val) 0#32 = 0#1 := by
    simp only [IntOp.cmpi, BitVec.slt, toInt_index]
    rw [decide_eq_false (show ¬ (s.val : ℤ) < (0#32).toInt from Int.not_lt.2 (Int.natCast_nonneg _))]
    rfl
  pointwise [wrap]
  rw [h, hs]
  rfl

/-- The index of a point is in range. -/
theorem inside_at (w : IVec S4x4096x3x1 32) (b : Fin 4) (n : Fin 4096) (k : Fin 3) (s : Fin 4096)
    (h : w (ix4 b n k 0) = BitVec.ofNat 32 s.val) : inside w (ix3 b n k) = 1#1 := by
  have hs : IntOp.andi (IntOp.cmpi .sge (BitVec.ofNat 32 s.val) 0#32) (IntOp.cmpi .sle (BitVec.ofNat 32 s.val) 4095#32) = 1#1 := by
    have := s.isLt
    simp only [IntOp.cmpi, BitVec.sle, toInt_index]
    rw [IntOp.andi_eq_one, Cert.Nearest.bit, Cert.Nearest.bit]
    exact ⟨Int.natCast_nonneg _, show (s.val : ℤ) ≤ 4095 by omega⟩
  pointwise [inside]
  rw [Finset.univ_unique, Finset.fold_singleton]
  rw [show (default : Fin 1) = 0 from rfl, h, hs]
  rfl

/-- The row a gather reads: the index's, kept in range. -/
theorem gather_at (x : FVec Ideal S4x4096x3 .f32) (w : IVec S4x4096x3x1 32) (b : Fin 4) (n : Fin 4096) (k : Fin 3) :
    Host.gather gather_S4x4096x3_S4x4096x3x1_S4x4096x3_n_1_02_02_1_3_111 x w (ix3 b n k) =
      x (ix3 b ⟨min (w (ix4 b n k 0)).toInt.toNat 4095, by omega⟩ k) := by
  unfold Host.gather
  congr 1
  funext a
  refine Fin.ext ?_
  show GatherDims.start _ _ w a + GatherDims.batchCoord _ _ a + GatherDims.offCoord _ _ a = _
  rw [GatherDims.offCoord_eq_zero _ _ _ (fun h => by
    have := (GatherDims.mem_sKept _ _).mp h
    fin_cases a
    · exact this.2 (by decide)
    · exact this.1 (by decide)
    · exact this.2 (by decide)), Nat.add_zero]
  fin_cases a
  · rw [GatherDims.start_batching _ _ _ _ (by decide), Nat.zero_add]
    unfold GatherDims.batchCoord
    rw [dif_pos (by decide)]
    rfl
  · rw [GatherDims.batchCoord_eq_zero _ _ _ (by decide), Nat.add_zero]
    unfold GatherDims.start
    rw [dif_pos (by decide)]
    refine congrArg (fun i => min (w i).toInt.toNat 4095) (funext fun d => Fin.ext ?_)
    fin_cases d <;> rfl
  · rw [GatherDims.start_batching _ _ _ _ (by decide), Nat.zero_add]
    unfold GatherDims.batchCoord
    rw [dif_pos (by decide)]
    rfl

/-- The row taken is that of the point. -/
theorem take_at (x : FVec Ideal S4x4096x3 .f32) (i : IVec S4x4096 32) (b : Fin 4) (n s : Fin 4096)
    (h : i (ix2 b n) = BitVec.ofNat 32 s.val) (k : Fin 3) : take x (rows i) (ix3 b n k) = x (ix3 b s k) := by
  have hw : wrap (rows i) (ix4 b n k 0) = BitVec.ofNat 32 s.val := wrap_at _ b n k s ((rows_at i b n k).trans h)
  have hg := gather_at x (wrap (rows i)) b n k
  have hi := inside_at _ b n k s hw
  show Scalar.select (inside (wrap (rows i)) (ix3 b n k))
    (Host.gather gather_S4x4096x3_S4x4096x3x1_S4x4096x3_n_1_02_02_1_3_111 x (wrap (rows i)) (ix3 b n k)) _ = _
  rw [hi, hg]
  show x _ = _
  congr 2
  refine Fin.ext ?_
  show min (wrap (rows i) (ix4 b n k 0)).toInt.toNat 4095 = s.val
  have := s.isLt
  rw [hw, toInt_index]
  omega

/-- The sum of squares of a row of reals. -/
theorem sq_at (x : FVec Ideal S4x4096x3 .f32) (b : Fin 4) (n : Fin 4096) (v : Fin 3 → ℝ)
    (h : ∀ k, x (ix3 b n k) = ((v k : ℝ) : EReal)) : sq x (ix2 b n) = ((∑ k, v k * v k : ℝ) : EReal) := by
  pointwise [Cert.Nearest.sq]
  simp only [h, ← EReal.coe_mul, ← coe_sum]

/-- How far apart two unit normals are. -/
theorem apart_at (x y : FVec Ideal S4x4096x3 .f32) (i : IVec S4x4096 32) (b : Fin 4) (n s : Fin 4096) (v w : Fin 3 → ℝ)
    (hi : i (ix2 b n) = BitVec.ofNat 32 s.val) (hx : ∀ k, unitRow (fun k => x (ix3 b n k)) k = ((unit v k : ℝ) : EReal))
    (hy : ∀ k, unitRow (fun k => y (ix3 b s k)) k = ((unit w k : ℝ) : EReal)) :
    apart x y i (ix2 b n) = ((∑ k, (unit v k - unit w k) * (unit v k - unit w k) : ℝ) : EReal) := by
  refine sq_at _ b n _ fun k => ?_
  show units x (ix3 b n k) - units (take y (rows i)) (ix3 b n k) = _
  rw [Cert.KernelIdeal.Arrays.units_at, Cert.KernelIdeal.Arrays.units_at, funext (take_at y i b n s hi), hx, hy, EReal.coe_sub]

/-- The mean over all points, -/
theorem mean_sum (x : FVec Ideal S4x4096 .f32) (j : S_.Idx) :
    mean x j = Ideal.div (∑ b : Fin 4, ∑ n : Fin 4096, x (ix2 b n)) ((16384 : ℝ) : EReal) := by
  pointwise [mean]
  rw [show Ideal.ofBits FTy.f32 1182793728#32 = ((16384 : ℝ) : EReal) from lit_count]

/-- of reals. -/
theorem mean_at (x : FVec Ideal S4x4096 .f32) (r : Fin 4 → Fin 4096 → ℝ) (h : ∀ b n, x (ix2 b n) = ((r b n : ℝ) : EReal))
    (j : S_.Idx) : mean x j = (((∑ b, ∑ n, r b n) / 16384 : ℝ) : EReal) := by
  rw [mean_sum]
  simp only [h, ← coe_sum]
  exact coe_div (by norm_num)

/-- With a squared distance that is minus infinity, so is the result. -/
theorem value_bot (X Y : FVec Ideal S4x4096x6 .f32) (b : Fin 4) (n m : Fin 4096) (h : Cert.Nearest.Infinite X Y b n m) :
    value X Y = fun _ => (⊥ : EReal) := by
  have hb : minN (pairs (pts X) (pts Y)) (ix2 b n) = ⊥ :=
    (Cert.Nearest.minN_at _ b n).trans (fold_min_bot (fun m => pairs (pts X) (pts Y) (ix3 b n m)) m h.1)
  funext j
  show mean _ j + mean _ j + mean _ j + mean _ j = _
  rw [mean_sum (minN (pairs (pts X) (pts Y))), sum_bot (fun b => ∑ n, minN (pairs (pts X) (pts Y)) (ix2 b n)) b (sum_bot _ n hb),
    bot_div (by norm_num), EReal.bot_add, EReal.bot_add, EReal.bot_add]

/-- On clouds, with the indices of the nearest points, the result is the loss. -/
theorem value_loss (X Y : FVec Ideal S4x4096x6 .f32) (C : Clouds) (h : Cert.Nearest.Real X Y C) :
    value X Y = fun _ => ((C.loss : ℝ) : EReal) := by
  obtain ⟨hC, hσ, hτ⟩ := h
  have px := fun b i k => (Cert.Nearest.pts_at X b i k).trans (hC.p b i k)
  have py := fun b i k => (Cert.Nearest.pts_at Y b i k).trans (hC.q b i k)
  have nx : ∀ b i k, unitRow (fun k => nrm X (ix3 b i k)) k = ((unit (C.n b i) k : ℝ) : EReal) := fun b i k => by
    simp only [Cert.Nearest.nrm_at]; exact hC.n b i k
  have ny : ∀ b i k, unitRow (fun k => nrm Y (ix3 b i k)) k = ((unit (C.o b i) k : ℝ) : EReal) := fun b i k => by
    simp only [Cert.Nearest.nrm_at]; exact hC.o b i k
  have hd := fun b n m => Cert.Nearest.pairs_real (pts X) (pts Y) b n m _ _ (px b n) (py b m)
  have below : ∀ (r : Fin 4096 → ℝ) (s : Fin 4096), (∀ j, j ≠ s → r s < r j) → ∀ j, r s ≤ r j := fun r s h j => by
    by_cases e : j = s
    · rw [e]
    · exact (h j e).le
  have m1 := mean_at (minN (pairs (pts X) (pts Y))) (fun b n => dsq (C.p b n) (C.q b (C.σ b n))) fun b n => by
    rw [Cert.Nearest.minN_at]
    simp only [hd]
    exact fold_min_eq (fun m => dsq (C.p b n) (C.q b m)) _ (below (fun m => dsq (C.p b n) (C.q b m)) _ (C.near_σ b n))
  have m2 := mean_at (minM (pairs (pts X) (pts Y))) (fun b m => dsq (C.p b (C.τ b m)) (C.q b m)) fun b m => by
    rw [Cert.Nearest.minM_at]
    simp only [hd]
    exact fold_min_eq (fun n => dsq (C.p b n) (C.q b m)) _ (below (fun n => dsq (C.p b n) (C.q b m)) _ (C.near_τ b m))
  have m3 := mean_at _ _ fun b n => apart_at (nrm X) (nrm Y) _ b n _ _ _ (hσ b n) (nx b n) (ny b (C.σ b n))
  have m4 := mean_at _ _ fun b m => apart_at (nrm Y) (nrm X) _ b m _ _ _ (hτ b m) (ny b m) (nx b (C.τ b m))
  funext j
  show mean _ j + mean _ j + mean _ j + mean _ j = _
  rw [m1, m2, m3, m4, ← EReal.coe_add, ← EReal.coe_add, ← EReal.coe_add]
  refine congrArg _ ?_
  have hs : ∀ b, ∑ r, (C.batch b).sums r = (∑ n, dsq (C.p b n) (C.q b (C.σ b n))) +
      (∑ n, ∑ k, (unit (C.n b n) k - unit (C.o b (C.σ b n)) k) * (unit (C.n b n) k - unit (C.o b (C.σ b n)) k)) +
      (∑ m, dsq (C.p b (C.τ b m)) (C.q b m)) +
      ∑ m, ∑ k, (unit (C.o b m) k - unit (C.n b (C.τ b m)) k) * (unit (C.o b m) k - unit (C.n b (C.τ b m)) k) := fun b =>
    Fin.sum_univ_four _
  rw [Clouds.loss, Finset.sum_congr rfl fun b _ => hs b, Finset.sum_add_distrib, Finset.sum_add_distrib, Finset.sum_add_distrib]
  ring

end Cert.ReferenceIdeal.Value

end
-- ==== Proof.lean ====
/- The certificate: the three programs run and leave their arguments and semaphores as they were, the kernel's idealization
   is its own text, and kernel and reference end with equal results wherever every nearest neighbour is unique. -/
module

public import proofs.«01_k».proof.Defs
public import proofs.«01_k».proof.Proof.BodyKernel
public import proofs.«01_k».proof.Proof.BodyKernelIdeal
public import proofs.«01_k».proof.Proof.Arrays
public import proofs.«01_k».proof.Proof.Nearest
public import proofs.«01_k».proof.Proof.Reference
public import proofs.«01_k».proof.Proof.Gen.Kernel
public import proofs.«01_k».proof.Proof.Gen.KernelIdeal
public import proofs.«01_k».proof.Proof.Gen.ReferenceIdeal
public import proofs.«01_k».proof.Proof.Gen.Pre_nearest_is_unique
public import Idealize.ShloMosaic.Adequacy
public import Idealize.ShloMosaic.Init
public import Idealize.ShloMosaic.Lib.Claim

@[expose] public section

set_option maxRecDepth 16384

noncomputable section

namespace Cert.Proof

open Idealize.ShloMosaic Idealize.SL.Sem

/-- The kernel as printed runs, keeps its arguments and ends with every counter at zero. -/
theorem kernel_frame (m : (ℓ : Loc Kernel.nD Kernel.τ Kernel.sig) → Buf (Elt Bits) ℓ) (g : Dev Kernel.nD → PrngReg) :
    θ_run (Kernel.defs (F := Bits)) (onTc (τ := Kernel.τ) (Kernel.main (F := Bits))) ⟨m, fun _ => 0, g⟩ fun r =>
      (∀ c : Dev Kernel.nD, r.2.mem ((c.tc : Thread Kernel.nD Kernel.τ).loc Kernel.main_arg0) = m ((c.tc : Thread Kernel.nD Kernel.τ).loc Kernel.main_arg0)
        ∧ r.2.mem ((c.tc : Thread Kernel.nD Kernel.τ).loc Kernel.main_arg1) = m ((c.tc : Thread Kernel.nD Kernel.τ).loc Kernel.main_arg1))
      ∧ r.2.sem = fun _ => 0 :=
  (Kernel.Body.run m g).mono fun _ h => ⟨Kernel.Body.args_kept m h.1, h.2⟩

/-- So does its idealization. -/
theorem ideal_frame (m : (ℓ : Loc KernelIdeal.nD KernelIdeal.τ KernelIdeal.sig) → Buf (Elt Ideal) ℓ) (g : Dev KernelIdeal.nD → PrngReg) :
    θ_run (KernelIdeal.defs (F := Ideal)) (onTc (τ := KernelIdeal.τ) (KernelIdeal.main (F := Ideal))) ⟨m, fun _ => 0, g⟩ fun r =>
      (∀ c : Dev KernelIdeal.nD, r.2.mem ((c.tc : Thread KernelIdeal.nD KernelIdeal.τ).loc KernelIdeal.main_arg0) = m ((c.tc : Thread KernelIdeal.nD KernelIdeal.τ).loc KernelIdeal.main_arg0)
        ∧ r.2.mem ((c.tc : Thread KernelIdeal.nD KernelIdeal.τ).loc KernelIdeal.main_arg1) = m ((c.tc : Thread KernelIdeal.nD KernelIdeal.τ).loc KernelIdeal.main_arg1))
      ∧ r.2.sem = fun _ => 0 :=
  (KernelIdeal.Body.run m g).mono fun _ h => ⟨KernelIdeal.Body.args_kept m h.1, h.2⟩

/-- And so does the reference, which has no semaphore. -/
theorem reference_frame (m : (ℓ : Loc ReferenceIdeal.nD ReferenceIdeal.τ ReferenceIdeal.sig) → Buf (Elt Ideal) ℓ) (g : Dev ReferenceIdeal.nD → PrngReg) :
    θ_run (ReferenceIdeal.defs (F := Ideal)) (onTc (τ := ReferenceIdeal.τ) (ReferenceIdeal.main (F := Ideal))) ⟨m, fun _ => 0, g⟩ fun r =>
      (∀ c : Dev ReferenceIdeal.nD, r.2.mem ((c.tc : Thread ReferenceIdeal.nD ReferenceIdeal.τ).loc ReferenceIdeal.main_arg0) = m ((c.tc : Thread ReferenceIdeal.nD ReferenceIdeal.τ).loc ReferenceIdeal.main_arg0)
        ∧ r.2.mem ((c.tc : Thread ReferenceIdeal.nD ReferenceIdeal.τ).loc ReferenceIdeal.main_arg1) = m ((c.tc : Thread ReferenceIdeal.nD ReferenceIdeal.τ).loc ReferenceIdeal.main_arg1))
      ∧ r.2.sem = fun _ => 0 :=
  θ_run_mono (ReferenceIdeal.Value.run m g) fun r h => ⟨fun c => (h c).2, sem_eq_zero_of_no_sems (by decide) r.2⟩

/-- From arguments that fulfil the precondition, kernel and reference end with one value: the loss, or minus infinity where a point is
    infinite. -/
theorem values (m : (ℓ : Loc KernelIdeal.nD KernelIdeal.τ KernelIdeal.sig) → Buf (Elt Ideal) ℓ) (c : Dev KernelIdeal.nD)
    (h : Pre_nearest_is_unique.fn (KernelIdeal.Arrays.X m c) (KernelIdeal.Arrays.Y m c) = fun _ => 1#1) :
    ∃ v : EReal, (KernelIdeal.Body.final m c KernelIdeal.main_v0 : FVec Ideal KernelIdeal.S_ .f32) = (fun _ => v) ∧
      ReferenceIdeal.Value.value (KernelIdeal.Arrays.X m c) (KernelIdeal.Arrays.Y m c) = fun _ => v := by
  rcases Nearest.cases _ _ h with ⟨C, hC⟩ | ⟨b, i, j, hi⟩
  · exact ⟨_, KernelIdeal.Arrays.final_loss m c C hC.1, ReferenceIdeal.Value.value_loss _ _ C hC⟩
  · obtain ⟨k, hk⟩ := hi.2
    exact ⟨_, KernelIdeal.Arrays.final_bot m c b i j k hk, ReferenceIdeal.Value.value_bot _ _ b i j hi⟩

/-- From the same arguments, where they fulfil the precondition, kernel and reference end with equal results. -/
theorem results_equal : algebraic_KernelIdeal_ReferenceIdeal_pre_nearest_is_unique := by
  intro m g m' g' hpre hagree
  choose v hk hr using fun c => values m c (hpre c)
  refine ⟨fun c => (fun _ => v c : FVec Ideal KernelIdeal.S_ .f32), (KernelIdeal.Body.run m g).mono fun r h c =>
    ⟨(KernelIdeal.Body.result_read m h.1 c).trans (hk c), KernelIdeal.Body.args_kept m h.1 c⟩,
    θ_run_mono (ReferenceIdeal.Value.run m' g') fun r h c => ⟨(h c).1.trans ?_, (h c).2⟩⟩
  rw [(hagree c).1, (hagree c).2]
  exact hr c

/-- The certificate's claim. -/
theorem claim : Cert.Claim :=
  ⟨Cert.Kernel.Gen.facts, Cert.KernelIdeal.Gen.facts, Cert.ReferenceIdeal.Gen.facts, Cert.Pre_nearest_is_unique.Gen.facts,
    fun m g _ => kernel_frame m g, fun m g _ => ideal_frame m g, fun m g _ => ideal_frame m g,
    fun m g _ => reference_frame m g, fun m g _ => reference_frame m g, trivial, results_equal⟩

end Cert.Proof

end
